-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_as_drawn [hPre_as_drawn : Cert.Pre_as_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_as_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_as_drawn [hPre_as_drawn : Cert.Pre_as_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_as_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_as_drawn [hKernelIdeal : Cert.KernelIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_as_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_as_drawn [hReferenceIdeal : Cert.ReferenceIdeal.Facts] [hPre_as_drawn : Cert.Pre_as_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_as_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_as_drawn [hKernelIdeal : Cert.KernelIdeal.Facts] [hReferenceIdeal : Cert.ReferenceIdeal.Facts] [hPre_as_drawn : Cert.Pre_as_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_as_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_as_drawn : Cert.Pre_as_drawn.Facts),
    quiescent_Kernel (hKernel := hKernel)
    ∧ quiescent_KernelIdeal (hKernelIdeal := hKernelIdeal)
    ∧ quiescent_KernelIdeal_pre_as_drawn (hKernelIdeal := hKernelIdeal) (hPre_as_drawn := hPre_as_drawn)
    ∧ quiescent_ReferenceIdeal (hReferenceIdeal := hReferenceIdeal)
    ∧ quiescent_ReferenceIdeal_pre_as_drawn (hReferenceIdeal := hReferenceIdeal) (hPre_as_drawn := hPre_as_drawn)
    ∧ preserves_Kernel_KernelIdeal
    ∧ algebraic_KernelIdeal_ReferenceIdeal_pre_as_drawn (hKernelIdeal := hKernelIdeal) (hReferenceIdeal := hReferenceIdeal) (hPre_as_drawn := hPre_as_drawn)
-- ==== Pre_as_drawn.lean ====
abbrev S16384x376 : Shape := ⟨2, ![16384, 376]⟩
abbrev S376x15 : Shape := ⟨2, ![376, 15]⟩
abbrev S15 : Shape := ⟨1, ![15]⟩
abbrev S16x376x17 : Shape := ⟨3, ![16, 376, 17]⟩
abbrev S16x17 : Shape := ⟨2, ![16, 17]⟩
abbrev S_ : Shape := ⟨0, ![]⟩

class Facts : Prop where
  bcast_S_S15 : S_.BroadcastsInDim S15 (![] : Fin 0 → Fin S15.rank)
  reducesTo_S15_S_d0 : S15.ReducesTo [0] S_
  h_S_ : 0 < S_.numel
  bcast_S_S16x17 : S_.BroadcastsInDim S16x17 (![] : Fin 0 → Fin S16x17.rank)
  reducesTo_S16x17_S_d0_1 : S16x17.ReducesTo [0, 1] S_
  bcast_S_S16384x376 : S_.BroadcastsInDim S16384x376 (![] : Fin 0 → Fin S16384x376.rank)
  reducesTo_S16384x376_S_d0_1 : S16384x376.ReducesTo [0, 1] S_
  bcast_S_S376x15 : S_.BroadcastsInDim S376x15 (![] : Fin 0 → Fin S376x15.rank)
  reducesTo_S376x15_S_d0_1 : S376x15.ReducesTo [0, 1] S_

variable [Facts]

def fn_part1 {F : FTy → Type} [FloatOps F] (main_v6 : IVec S_ 1) (main_v15 : IVec S_ 1) : IVec S_ 1 :=
  let main_v16 : IVec S_ 1 := andi main_v6 main_v15
  main_v16

def fn {F : FTy → Type} [FloatOps F] (main_arg0 : FVec F S16384x376 .f32) (main_arg1 : FVec F S376x15 .f32) (main_arg2 : FVec F S15 .f32) (main_arg3 : FVec F S16x376x17 .f32) (main_arg4 : FVec F S16x17 .f32) (main_arg5 : FVec F S16x17 .f32) : IVec S_ 1 :=
  let main_cst : FVec F S_ .f32 := constant S_ .f32 0x00000000#32
  let main_v0 : FVec F S15 .f32 := broadcastInDim S15 ![] bcast_S_S15 main_cst
  let main_v1 : IVec S15 1 := cmpf .oeq main_arg2 main_v0
  let main_c : IVec S_ 1 := constantI S_ 1 1#1
  let main_v2 : IVec S_ 1 := (fun x v => Host.reduce IntOp.andi x v reducesTo_S15_S_d0 h_S_) main_v1 main_c
  let main_cst_0 : FVec F S_ .f32 := constant S_ .f32 0x00000000#32
  let main_v3 : FVec F S16x17 .f32 := broadcastInDim S16x17 ![] bcast_S_S16x17 main_cst_0
  let main_v4 : IVec S16x17 1 := cmpf .oeq main_arg4 main_v3
  let main_c_1 : IVec S_ 1 := constantI S_ 1 1#1
  let main_v5 : IVec S_ 1 := (fun x v => Host.reduce IntOp.andi x v reducesTo_S16x17_S_d0_1 h_S_) main_v4 main_c_1
  let main_v6 : IVec S_ 1 := andi main_v2 main_v5
  let main_v7 : FVec F S16384x376 .f32 := Host.absf main_arg0
  let main_cst_2 : FVec F S_ .f32 := constant S_ .f32 0x7F800000#32
  let main_v8 : FVec F S16384x376 .f32 := broadcastInDim S16384x376 ![] bcast_S_S16384x376 main_cst_2
  let main_v9 : IVec S16384x376 1 := cmpf .olt main_v7 main_v8
  let main_c_3 : IVec S_ 1 := constantI S_ 1 1#1
  let main_v10 : IVec S_ 1 := (fun x v => Host.reduce IntOp.andi x v reducesTo_S16384x376_S_d0_1 h_S_) main_v9 main_c_3
  let main_v11 : FVec F S376x15 .f32 := Host.absf main_arg1
  let main_cst_4 : FVec F S_ .f32 := constant S_ .f32 0x7F800000#32
  let main_v12 : FVec F S376x15 .f32 := broadcastInDim S376x15 ![] bcast_S_S376x15 main_cst_4
  let main_v13 : IVec S376x15 1 := cmpf .olt main_v11 main_v12
  let main_c_5 : IVec S_ 1 := constantI S_ 1 1#1
  let main_v14 : IVec S_ 1 := (fun x v => Host.reduce IntOp.andi x v reducesTo_S376x15_S_d0_1 h_S_) main_v13 main_c_5
  let main_v15 : IVec S_ 1 := andi main_v10 main_v14
  fn_part1 (F := F) main_v6 main_v15
-- ==== Kernel.lean ====
abbrev S16384x376 : Shape := ⟨2, ![16384, 376]⟩
abbrev S376x15 : Shape := ⟨2, ![376, 15]⟩
abbrev S15 : Shape := ⟨1, ![15]⟩
abbrev S16x376x17 : Shape := ⟨3, ![16, 376, 17]⟩
abbrev S16x17 : Shape := ⟨2, ![16, 17]⟩
abbrev S16x15 : Shape := ⟨2, ![16, 15]⟩
abbrev S272x16 : Shape := ⟨2, ![272, 16]⟩
abbrev S17x272 : Shape := ⟨2, ![17, 272]⟩
abbrev S376x16384 : Shape := ⟨2, ![376, 16384]⟩
abbrev S15x376 : Shape := ⟨2, ![15, 376]⟩
abbrev S17x16x376 : Shape := ⟨3, ![17, 16, 376]⟩
abbrev S17x16 : Shape := ⟨2, ![17, 16]⟩
abbrev S17x16384 : Shape := ⟨2, ![17, 16384]⟩
abbrev S16384x17 : Shape := ⟨2, ![16384, 17]⟩
abbrev S376x4096 : Shape := ⟨2, ![376, 4096]⟩
abbrev S272x376 : Shape := ⟨2, ![272, 376]⟩
abbrev S4 : Shape := ⟨1, ![4]⟩
abbrev S1 : Shape := ⟨1, ![1]⟩
abbrev S_ : Shape := ⟨0, ![]⟩
abbrev S1x16x376 : Shape := ⟨3, ![1, 16, 376]⟩
abbrev S16x376 : Shape := ⟨2, ![16, 376]⟩
abbrev S15x4096 : Shape := ⟨2, ![15, 4096]⟩
abbrev S16x4096 : Shape := ⟨2, ![16, 4096]⟩
abbrev S4096 : Shape := ⟨1, ![4096]⟩
abbrev S1x4096 : Shape := ⟨2, ![1, 4096]⟩
abbrev S272x4096 : Shape := ⟨2, ![272, 4096]⟩
abbrev S17x4096 : Shape := ⟨2, ![17, 4096]⟩

abbrev nBuf : Space → Nat
  | .hbm => 18
  | .vmem => 14
  | .smem => 0
  | _ => 0

abbrev bufTy : (tb : Table) → Fin (tcTables nBuf tb) → BufTy
  | .hbm, ⟨0, _⟩ => ⟨S16384x376, .f32⟩
  | .hbm, ⟨1, _⟩ => ⟨S376x15, .f32⟩
  | .hbm, ⟨2, _⟩ => ⟨S15, .f32⟩
  | .hbm, ⟨3, _⟩ => ⟨S16x376x17, .f32⟩
  | .hbm, ⟨4, _⟩ => ⟨S16x17, .f32⟩
  | .hbm, ⟨5, _⟩ => ⟨S16x17, .f32⟩
  | .hbm, ⟨6, _⟩ => ⟨S16x15, .f32⟩
  | .hbm, ⟨7, _⟩ => ⟨S16x15, .f32⟩
  | .hbm, ⟨8, _⟩ => ⟨S272x16, .bf16⟩
  | .hbm, ⟨9, _⟩ => ⟨S17x272, .bf16⟩
  | .hbm, ⟨10, _⟩ => ⟨S376x16384, .f32⟩
  | .hbm, ⟨11, _⟩ => ⟨S15x376, .f32⟩
  | .hbm, ⟨12, _⟩ => ⟨S17x16x376, .f32⟩
  | .hbm, ⟨13, _⟩ => ⟨S17x16, .f32⟩
  | .hbm, ⟨14, _⟩ => ⟨S17x16384, .f32⟩
  | .hbm, ⟨15, _⟩ => ⟨S17x16384, .f32⟩
  | .hbm, ⟨16, _⟩ => ⟨S16384x17, .f32⟩
  | .hbm, ⟨17, _⟩ => ⟨S16384x17, .f32⟩
  | .local _ .vmem, ⟨0, _⟩ => ⟨S15x376, .f32⟩
  | .local _ .vmem, ⟨1, _⟩ => ⟨S16x15, .f32⟩
  | .local _ .vmem, ⟨2, _⟩ => ⟨S16x15, .f32⟩
  | .local _ .vmem, ⟨3, _⟩ => ⟨S17x16x376, .f32⟩
  | .local _ .vmem, ⟨4, _⟩ => ⟨S17x16, .f32⟩
  | .local _ .vmem, ⟨5, _⟩ => ⟨S272x16, .bf16⟩
  | .local _ .vmem, ⟨6, _⟩ => ⟨S17x272, .bf16⟩
  | .local _ .vmem, ⟨7, _⟩ => ⟨S17x16384, .f32⟩
  | .local _ .vmem, ⟨8, _⟩ => ⟨S17x16384, .f32⟩
  | .local _ .vmem, ⟨9, _⟩ => ⟨S376x4096, .f32⟩
  | .local _ .vmem, ⟨10, _⟩ => ⟨S376x4096, .f32⟩
  | .local _ .vmem, ⟨11, _⟩ => ⟨S376x4096, .f32⟩
  | .local _ .vmem, ⟨12, _⟩ => ⟨S376x4096, .f32⟩
  | .local _ .vmem, ⟨13, _⟩ => ⟨S272x376, .bf16⟩
  | _, _ => ⟨S16384x376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_cst_0 : Ref sig .tc := ⟨.hbm, 7, rfl⟩
abbrev main_call0_cst_1 : Ref sig .tc := ⟨.hbm, 8, rfl⟩
abbrev main_call0_cst_2 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4_0 : Ref sig .tc := ⟨.hbm, 14, rfl⟩
abbrev main_call0_v4_1 : Ref sig .tc := ⟨.hbm, 15, rfl⟩
abbrev main_v0_0 : Ref sig .tc := ⟨.hbm, 16, rfl⟩
abbrev main_v0_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S15x376 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x15 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x15 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S17x16x376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S17x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S272x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S17x272 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S17x16384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S17x16384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S16384x376 : Shape := ⟨2, ![16384, 376]⟩
abbrev S376x15 : Shape := ⟨2, ![376, 15]⟩
abbrev S15 : Shape := ⟨1, ![15]⟩
abbrev S16x376x17 : Shape := ⟨3, ![16, 376, 17]⟩
abbrev S16x17 : Shape := ⟨2, ![16, 17]⟩
abbrev S15x16 : Shape := ⟨2, ![15, 16]⟩
abbrev S16384x15 : Shape := ⟨2, ![16384, 15]⟩
abbrev S1x15 : Shape := ⟨2, ![1, 15]⟩
abbrev S_ : Shape := ⟨0, ![]⟩
abbrev S16384x16 : Shape := ⟨2, ![16384, 16]⟩
abbrev S16384x4 : Shape := ⟨2, ![16384, 4]⟩
abbrev S16384x1 : Shape := ⟨2, ![16384, 1]⟩
abbrev S16384 : Shape := ⟨1, ![16384]⟩
abbrev S1x16 : Shape := ⟨2, ![1, 16]⟩
abbrev S16384x16x17 : Shape := ⟨3, ![16384, 16, 17]⟩
abbrev S1x16x17 : Shape := ⟨3, ![1, 16, 17]⟩
abbrev S16384x17 : Shape := ⟨2, ![16384, 17]⟩

abbrev nBuf : Space → Nat
  | .hbm => 83
  | .vmem => 0
  | .smem => 0
  | _ => 0

abbrev bufTy : (tb : Table) → Fin (tcTables nBuf tb) → BufTy
  | .hbm, ⟨0, _⟩ => ⟨S16384x376, .f32⟩
  | .hbm, ⟨1, _⟩ => ⟨S376x15, .f32⟩
  | .hbm, ⟨2, _⟩ => ⟨S15, .f32⟩
  | .hbm, ⟨3, _⟩ => ⟨S16x376x17, .f32⟩
  | .hbm, ⟨4, _⟩ => ⟨S16x17, .f32⟩
  | .hbm, ⟨5, _⟩ => ⟨S16x17, .f32⟩
  | .hbm, ⟨6, _⟩ => ⟨S15x16, .f32⟩
  | .hbm, ⟨7, _⟩ => ⟨S16384x15, .f32⟩
  | .hbm, ⟨8, _⟩ => ⟨S1x15, .f32⟩
  | .hbm, ⟨9, _⟩ => ⟨S16384x15, .f32⟩
  | .hbm, ⟨10, _⟩ => ⟨S16384x15, .f32⟩
  | .hbm, ⟨11, _⟩ => ⟨S_, .f32⟩
  | .hbm, ⟨12, _⟩ => ⟨S16384x15, .f32⟩
  | .hbm, ⟨13, _⟩ => ⟨S16384x15, .f32⟩
  | .hbm, ⟨14, _⟩ => ⟨S_, .f32⟩
  | .hbm, ⟨15, _⟩ => ⟨S15x16, .f32⟩
  | .hbm, ⟨16, _⟩ => ⟨S15x16, .f32⟩
  | .hbm, ⟨17, _⟩ => ⟨S16384x16, .f32⟩
  | .hbm, ⟨18, _⟩ => ⟨S16384x15, .f32⟩
  | .hbm, ⟨19, _⟩ => ⟨S_, .f32⟩
  | .hbm, ⟨20, _⟩ => ⟨S16384x15, .f32⟩
  | .hbm, ⟨21, _⟩ => ⟨S16384x15, .f32⟩
  | .hbm, ⟨22, _⟩ => ⟨S15x16, .f32⟩
  | .hbm, ⟨23, _⟩ => ⟨S_, .f32⟩
  | .hbm, ⟨24, _⟩ => ⟨S15x16, .f32⟩
  | .hbm, ⟨25, _⟩ => ⟨S15x16, .f32⟩
  | .hbm, ⟨26, _⟩ => ⟨S16384x16, .f32⟩
  | .hbm, ⟨27, _⟩ => ⟨S16384x16, .f32⟩
  | .hbm, ⟨28, _⟩ => ⟨S16384x4, .f32⟩
  | .hbm, ⟨29, _⟩ => ⟨S16384x4, .i32⟩
  | .hbm, ⟨30, _⟩ => ⟨S16384x1, .f32⟩
  | .hbm, ⟨31, _⟩ => ⟨S16384x16, .f32⟩
  | .hbm, ⟨32, _⟩ => ⟨S16384x16, .i1⟩
  | .hbm, ⟨33, _⟩ => ⟨S_, .f32⟩
  | .hbm, ⟨34, _⟩ => ⟨S16384x16, .f32⟩
  | .hbm, ⟨35, _⟩ => ⟨S16384x16, .f32⟩
  | .hbm, ⟨36, _⟩ => ⟨S_, .f32⟩
  | .hbm, ⟨37, _⟩ => ⟨S_, .f32⟩
  | .hbm, ⟨38, _⟩ => ⟨S16384x16, .f32⟩
  | .hbm, ⟨39, _⟩ => ⟨S16384x16, .f32⟩
  | .hbm, ⟨40, _⟩ => ⟨S_, .f32⟩
  | .hbm, ⟨41, _⟩ => ⟨S16384, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S16384x1, .f32⟩
  | .hbm, ⟨46, _⟩ => ⟨S16384x16, .f32⟩
  | .hbm, ⟨47, _⟩ => ⟨S16384x16, .f32⟩
  | .hbm, ⟨48, _⟩ => ⟨S16384x16, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S16384x16, .f32⟩
  | .hbm, ⟨53, _⟩ => ⟨S16384x16, .f32⟩
  | .hbm, ⟨54, _⟩ => ⟨S16384x16, .i32⟩
  | .hbm, ⟨55, _⟩ => ⟨S_, .f32⟩
  | .hbm, ⟨56, _⟩ => ⟨S_, .i32⟩
  | .hbm, ⟨57, _⟩ => ⟨S16384, .f32⟩
  | .hbm, ⟨58, _⟩ => ⟨S16384, .i32⟩
  | .hbm, ⟨59, _⟩ => ⟨S16384x1, .i32⟩
  | .hbm, ⟨60, _⟩ => ⟨S1x16, .i32⟩
  | .hbm, ⟨61, _⟩ => ⟨S16384x16, .i32⟩
  | .hbm, ⟨62, _⟩ => ⟨S16384x16, .i32⟩
  | .hbm, ⟨63, _⟩ => ⟨S16384x16, .i1⟩
  | .hbm, ⟨64, _⟩ => ⟨S16384x16, .f32⟩
  | .hbm, ⟨65, _⟩ => ⟨S16384x16, .f32⟩
  | .hbm, ⟨66, _⟩ => ⟨S16384x16, .f32⟩
  | .hbm, ⟨67, _⟩ => ⟨S16384x16x17, .f32⟩
  | .hbm, ⟨68, _⟩ => ⟨S1x16x17, .f32⟩
  | .hbm, ⟨69, _⟩ => ⟨S16384x16x17, .f32⟩
  | .hbm, ⟨70, _⟩ => ⟨S16384x16x17, .f32⟩
  | .hbm, ⟨71, _⟩ => ⟨S16384x17, .f32⟩
  | .hbm, ⟨72, _⟩ => ⟨S16384x17, .f32⟩
  | .hbm, ⟨73, _⟩ => ⟨S16384x17, .f32⟩
  | .hbm, ⟨74, _⟩ => ⟨S_, .f32⟩
  | .hbm, ⟨75, _⟩ => ⟨S16384x17, .f32⟩
  | .hbm, ⟨76, _⟩ => ⟨S16384x17, .f32⟩
  | .hbm, ⟨77, _⟩ => ⟨S_, .f32⟩
  | .hbm, ⟨78, _⟩ => ⟨S16384x17, .f32⟩
  | .hbm, ⟨79, _⟩ => ⟨S16384x17, .f32⟩
  | .hbm, ⟨80, _⟩ => ⟨S_, .f32⟩
  | .hbm, ⟨81, _⟩ => ⟨S16384x17, .f32⟩
  | .hbm, ⟨82, _⟩ => ⟨S16384x17, .f32⟩
  | _, _ => ⟨S16384x376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_values : Ref sig .tc := ⟨.hbm, 28, rfl⟩
abbrev main_indices : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call1_v0 : Ref sig .tc := ⟨.hbm, 54, rfl⟩
abbrev main_call1_cst : Ref sig .tc := ⟨.hbm, 55, rfl⟩
abbrev main_call1_c : Ref sig .tc := ⟨.hbm, 56, rfl⟩
abbrev main_call1_v1_0 : Ref sig .tc := ⟨.hbm, 57, rfl⟩
abbrev main_v34 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_cst_10 : Ref sig .tc := ⟨.hbm, 77, rfl⟩
abbrev main_v47 : Ref sig .tc := ⟨.hbm, 78, rfl⟩
abbrev main_v48 : Ref sig .tc := ⟨.hbm, 79, rfl⟩
abbrev main_cst_11 : Ref sig .tc := ⟨.hbm, 80, rfl⟩
abbrev main_v49 : Ref sig .tc := ⟨.hbm, 81, rfl⟩
abbrev main_v50 : Ref sig .tc := ⟨.hbm, 82, rfl⟩

abbrev nD : Nat := 1
abbrev τ : Topo := Topo.v7x

variable {F : FTy → Type} [FloatOps F]
-- ==== Proof.Block.lean ====
module

public import proofs.«01_k».proof.Proof.Gen.KernelIdeal.Skeleton
public import Idealize.ShloMosaic.Lib.Pointwise

/-! What the kernel computes of one block of 4096 observations, read one observation at a time. -/

@[expose] public section

set_option maxRecDepth 16384

noncomputable section

namespace Cert.KernelIdeal.Block

open Cert.KernelIdeal Cert.KernelIdeal.Gen Idealize.ShloMosaic Idealize.ShloMosaic.TcCoe Idealize.SL.Sem

/-- Decision `i` of an observation: the inner product of row `i` with the observation. -/
def decision (w1t : FVec Ideal S15x376 .f32) (x : Fin 376 → EReal) (i : Fin 15) : EReal := ∑ d, w1t (ix2 i d) * x d

/-- The score of leaf `l`: the positive parts of the decisions and of their negatives, weighted by two tables. -/
def score (sp sm : FVec Ideal S16x15 .f32) (a : Fin 15 → EReal) (l : Fin 16) : EReal :=
  ∑ i, sp (ix2 l i) * max (a i) 0 + ∑ i, sm (ix2 l i) * max (0 - a i) 0

/-- The first place at which the scores reach their greatest value, as a word. -/
def place (z : Fin 16 → EReal) : BitVec 32 :=
  Finset.fold IntOp.minsi (2147483647#32)
    (fun l : Fin 16 => if Finset.fold max (Ideal.ofBits FTy.f32 4286578688#32) (fun k => z k) Finset.univ ≤ z l
      then BitVec.ofNat 32 ↑l else 16#32) Finset.univ

/-- One at the chosen place, zero elsewhere. -/
def hot (z : Fin 16 → EReal) (l : Fin 16) : EReal :=
  FloatOps.sitofp (F := Ideal) FTy.f32 (BitVec.setWidth 32 (IntOp.cmpi CmpIPredicate.eq (BitVec.ofNat 32 ↑l) (place z)))

/-- The weights that an observation gives to the leaves. -/
def weight (w1t : FVec Ideal S15x376 .f32) (sp sm : FVec Ideal S16x15 .f32) (x : Fin 376 → EReal) : Fin 16 → EReal :=
  hot (score sp sm (decision w1t x))

/-- The mean of an observation at output `o`: every pair of an output and a leaf has its inner product with the
observation and its leaf's weight, and the pairs of output `o` are added up. -/
def meanOf (wf : FVec Ideal S272x376 .bf16) (e : FVec Ideal S272x16 .bf16) (p : FVec Ideal S17x272 .bf16)
    (x : Fin 376 → EReal) (w : Fin 16 → EReal) (o : Fin 17) : EReal :=
  ∑ k, p (ix2 o k) * ((∑ d, wf (ix2 k d) * x d) * ∑ l, e (ix2 k l) * w l)

/-- The squashed log deviations, weighted. -/
def logStdOf (ls : FVec Ideal S17x16 .f32) (w : Fin 16 → EReal) (o : Fin 17) : EReal :=
  ∑ l, (Ideal.ofBits FTy.f32 3231711232#32 + Ideal.ofBits FTy.f32 1080033280#32 * (Ideal.tanh (ls (ix2 o l)) + 1)) * w l

/-- The kernel's weights, read at a leaf and an observation. -/
theorem weight_at (x : FVec Ideal S376x4096 .f32) (w1t : FVec Ideal S15x376 .f32) (sp sm : FVec Ideal S16x15 .f32)
    (l : Fin 16) (b : Fin 4096) :
    k0_pay26 (F := Ideal) x w1t sp sm (ix2 l b) = weight w1t sp sm (fun d => x (ix2 d b)) l := by
  pointwise [k0_pay26]
  rfl

/-- The kernel's means, read at an output and an observation. -/
theorem mean_at (x : FVec Ideal S376x4096 .f32) (w : FVec Ideal S16x4096 .bf16) (wf : FVec Ideal S272x376 .bf16)
    (e : FVec Ideal S272x16 .bf16) (p : FVec Ideal S17x272 .bf16) (o : Fin 17) (b : Fin 4096) :
    k0_pay27 (F := Ideal) x w wf e p (ix2 o b) = meanOf wf e p (fun d => x (ix2 d b)) (fun l => w (ix2 l b)) o := by
  pointwise [k0_pay27]
  rfl

/-- The kernel's log deviations, read at an output and an observation. -/
theorem logStd_at (ls : FVec Ideal S17x16 .f32) (w : FVec Ideal S16x4096 .bf16) (o : Fin 17) (b : Fin 4096) :
    k0_pay28 (F := Ideal) (k0_pay25 (k0_pay24 (F := Ideal) ls)) w (ix2 o b) = logStdOf ls (fun l => w (ix2 l b)) o := by
  pointwise [k0_pay28, k0_pay25, k0_pay24]
  rfl

/-- One block's means from its observations. -/
theorem mean_block (x : FVec Ideal S376x4096 .f32) (w1t : FVec Ideal S15x376 .f32) (sp sm : FVec Ideal S16x15 .f32)
    (wf : FVec Ideal S272x376 .bf16) (e : FVec Ideal S272x16 .bf16) (p : FVec Ideal S17x272 .bf16) (j : S17x4096.Idx) :
    k0_pay27 (F := Ideal) x (k0_pay26 (F := Ideal) x w1t sp sm) wf e p j
      = meanOf wf e p (fun d => x (ix2 d (j 1))) (weight w1t sp sm fun d => x (ix2 d (j 1))) (j 0) := by
  rw [eq_ix2 j]
  exact (mean_at x _ wf e p _ _).trans (congrArg (fun w => meanOf wf e p _ w _) (funext fun l => weight_at x w1t sp sm l _))

/-- One block's log deviations from its observations. -/
theorem logStd_block (x : FVec Ideal S376x4096 .f32) (w1t : FVec Ideal S15x376 .f32) (sp sm : FVec Ideal S16x15 .f32)
    (ls : FVec Ideal S17x16 .f32) (j : S17x4096.Idx) :
    k0_pay28 (F := Ideal) (k0_pay25 (k0_pay24 (F := Ideal) ls)) (k0_pay26 (F := Ideal) x w1t sp sm) j
      = logStdOf ls (weight w1t sp sm fun d => x (ix2 d (j 1))) (j 0) := by
  rw [eq_ix2 j]
  exact (logStd_at ls _ _ _).trans (congrArg (fun w => logStdOf ls w _) (funext fun l => weight_at x w1t sp sm l _))

end Cert.KernelIdeal.Block
-- ==== Proof.KernelValue.lean ====
module

public import proofs.«01_k».proof.Proof.Block
public import proofs.«01_k».proof.Proof.Gen.KernelIdeal.Frame
public import Idealize.ShloMosaic.Lib.Pipeline.ValueKit
public import Idealize.ShloMosaic.Lib.Claim

/-! What the kernel's two result arrays hold after the run, as functions of the arrays that the region finds. -/

@[expose] public section

set_option maxRecDepth 16384

noncomputable section

namespace Cert.KernelIdeal.Value

open Cert.KernelIdeal Cert.KernelIdeal.Gen Cert.KernelIdeal.Block
open Idealize.ShloMosaic Idealize.ShloMosaic.TcCoe Idealize.SL.Sem

variable (m : (ℓ : Loc nD τ sig) → Buf (Elt Ideal) ℓ)

/-! ## The payloads of the other three blocks are the first block's -/

/-- The means that the second block stores are the first block's function of its observations. -/
theorem mean_1 (x : FVec Ideal S376x4096 .f32) (w1t : FVec Ideal S15x376 .f32) (sp sm : FVec Ideal S16x15 .f32)
    (wf : FVec Ideal S272x376 .bf16) (e : FVec Ideal S272x16 .bf16) (p : FVec Ideal S17x272 .bf16) :
    k0_pay34 (F := Ideal) x (k0_pay30 (F := Ideal) x w1t sp) sm (k0_pay31 (F := Ideal) x w1t) k0_pay32 wf e p
      = k0_pay27 (F := Ideal) x (k0_pay26 (F := Ideal) x w1t sp sm) wf e p := rfl

/-- The means that the third block stores are the first block's function of its observations. -/
theorem mean_2 (x : FVec Ideal S376x4096 .f32) (w1t : FVec Ideal S15x376 .f32) (sp sm : FVec Ideal S16x15 .f32)
    (wf : FVec Ideal S272x376 .bf16) (e : FVec Ideal S272x16 .bf16) (p : FVec Ideal S17x272 .bf16) :
    k0_pay37 (F := Ideal) x w1t sp sm wf e p = k0_pay27 (F := Ideal) x (k0_pay26 (F := Ideal) x w1t sp sm) wf e p := rfl

/-- The means that the fourth block stores are the first block's function of its observations. -/
theorem mean_3 (x : FVec Ideal S376x4096 .f32) (w1t : FVec Ideal S15x376 .f32) (sp sm : FVec Ideal S16x15 .f32)
    (wf : FVec Ideal S272x376 .bf16) (e : FVec Ideal S272x16 .bf16) (p : FVec Ideal S17x272 .bf16) :
    k0_pay2 (F := Ideal) x (k0_pay39 (F := Ideal) x w1t sp sm) wf e p
      = k0_pay27 (F := Ideal) x (k0_pay26 (F := Ideal) x w1t sp sm) wf e p := rfl

/-- The log deviations that the second block stores are the first block's function of its observations. -/
theorem logStd_1 (x : FVec Ideal S376x4096 .f32) (w1t : FVec Ideal S15x376 .f32) (sp sm : FVec Ideal S16x15 .f32)
    (t : FVec Ideal S17x16 .bf16) :
    k0_pay35 (F := Ideal) t (k0_pay30 (F := Ideal) x w1t sp) sm (k0_pay31 (F := Ideal) x w1t) k0_pay32
      = k0_pay28 (F := Ideal) t (k0_pay26 (F := Ideal) x w1t sp sm) := rfl

/-- The log deviations that the third block stores are the first block's function of its observations. -/
theorem logStd_2 (x : FVec Ideal S376x4096 .f32) (w1t : FVec Ideal S15x376 .f32) (sp sm : FVec Ideal S16x15 .f32)
    (t : FVec Ideal S17x16 .bf16) :
    k0_pay38 (F := Ideal) t (k0_pay36 (F := Ideal) x w1t sp sm)
      = k0_pay28 (F := Ideal) t (k0_pay26 (F := Ideal) x w1t sp sm) := rfl

/-- The log deviations that the fourth block stores are the first block's function of its observations. -/
theorem logStd_3 (x : FVec Ideal S376x4096 .f32) (w1t : FVec Ideal S15x376 .f32) (sp sm : FVec Ideal S16x15 .f32)
    (t : FVec Ideal S17x16 .bf16) :
    k0_pay3 (F := Ideal) t (k0_pay39 (F := Ideal) x w1t sp sm)
      = k0_pay28 (F := Ideal) t (k0_pay26 (F := Ideal) x w1t sp sm) := rfl

/-! ## The windows' blocks at the one grid point are their arrays -/

/-- Every window starts at the origin of its array. -/
theorem idx : ∀ t : Fin cfg0.N, win0_0.index t = ![0, 0] ∧ win0_1.index t = ![0, 0] ∧ win0_2.index t = ![0, 0]
    ∧ win0_3.index t = ![0, 0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

/-- The block of the turned decision weights is the whole array. -/
theorem iblk0 (c : Dev nD) : iblk m c 0 t0_0 = V m c main_call0_v1 := by blk_ext! [iblk, idx t0_0]
/-- The block of the table of positive signs is the whole array. -/
theorem iblk1 (c : Dev nD) : iblk m c 1 t0_0 = V m c main_call0_cst := by blk_ext! [iblk, idx t0_0]
/-- The block of the table of negative signs is the whole array. -/
theorem iblk2 (c : Dev nD) : iblk m c 2 t0_0 = V m c main_call0_cst_0 := by blk_ext! [iblk, idx t0_0]
/-- The block of the turned leaf maps is the whole array. -/
theorem iblk3 (c : Dev nD) : iblk m c 3 t0_0 = V m c main_call0_v2 := by blk_ext! [iblk, idx t0_0]
/-- The block of the turned log deviations is the whole array. -/
theorem iblk4 (c : Dev nD) : iblk m c 4 t0_0 = V m c main_call0_v3 := by blk_ext! [iblk, idx t0_0]
/-- The block of the table that spreads the weights is the whole array. -/
theorem iblk5 (c : Dev nD) : iblk m c 5 t0_0 = V m c main_call0_cst_1 := by blk_ext! [iblk, idx t0_0]
/-- The block of the table that adds up the rows is the whole array. -/
theorem iblk6 (c : Dev nD) : iblk m c 6 t0_0 = V m c main_call0_cst_2 := by blk_ext! [iblk, idx t0_0]

/-! ## A copied block of observations -/

/-- A buffer filled by one whole copy reads as what was copied. -/
theorem slab {sp : Space} (v : View sig .tc sp S376x4096 .f32) (w : S376x4096.Idx → Elt Ideal .f32) (inb) :
    v.readCov [(⟨Rect.whole S376x4096, w⟩ : View.Piece (Elt Ideal) S376x4096 .f32)] (Rect.unit (s := S376x4096) ![0, 0] ![376, 4096] inb).toLoadRect
      = w := by
  rw [View.readCov_eq_canon']
  funext j
  have h : (Rect.unit (s := S376x4096) ![0, 0] ![376, 4096] inb).toLoadRect.idx j = (Rect.whole S376x4096).emb j := by
    funext a
    apply Fin.ext
    fin_cases a <;> simp [Rect.emb_apply, Rect.whole]
  rw [h]
  exact View.canon_cons_emb (Rect.whole S376x4096) w [] j

/-- The observations that one copy fetches. -/
theorem copied (off : Nat) (inb) (f : main_call0_v0.ty.Contents (Elt Ideal)) (d : Fin 376) (y : Fin 4096) (b : Fin 16384)
    (hb : (b : Nat) = off + y) :
    ReadAs.same.apply (View.read (Elt Ideal) ((View.whole main_call0_v0).slice (Rect.unit (s := S376x16384) ![0, off] ![376, 4096] inb)) f)
      (ix2 d y) = f (ix2 d b) := by
  refine congrArg f (funext fun a => Fin.ext ?_)
  fin_cases a
  · simp
  · simp [hb]

/-- A block's log deviations, at a place of the whole array. -/
theorem piece8 (off : Nat) (inb) (f : main_call0_v0.ty.Contents (Elt Ideal)) (w1t : FVec Ideal S15x376 .f32) (sp sm : FVec Ideal S16x15 .f32)
    (ls : FVec Ideal S17x16 .f32) (x : S17x4096.Idx) (j : S17x16384.Idx) (h0 : (j 0 : Nat) = x 0) (h1 : (j 1 : Nat) = off + x 1) :
    k0_pay28 (F := Ideal) (k0_pay25 (k0_pay24 (F := Ideal) ls)) (k0_pay26 (F := Ideal)
      (ReadAs.same.apply (View.read (Elt Ideal) ((View.whole main_call0_v0).slice (Rect.unit (s := S376x16384) ![0, off] ![376, 4096] inb)) f))
      w1t sp sm) x = logStdOf ls (weight w1t sp sm fun d => (f : FVec Ideal S376x16384 .f32) (ix2 d (j 1))) (j 0) := by
  have e : j 0 = x 0 := Fin.ext h0
  rw [e, logStd_block]
  exact congrArg (fun w => logStdOf ls (weight w1t sp sm w) _) (funext fun d => copied off inb f d (x 1) (j 1) h1)

/-- The table of leaf maps that the kernel gathers: row `16 o + l` is leaf `l`'s row for output `o`. -/
def gathered (w : FVec Ideal S17x16x376 .f32) : FVec Ideal S272x376 .bf16 := fun y =>
  w (ix3 ⟨(y 0 : Nat) / 16, by have : (y 0 : Nat) < 272 := (y 0).isLt; omega⟩ ⟨(y 0 : Nat) % 16, by omega⟩ (y 1))

/-- The seventeen stores leave that table. -/
theorem gathered_eq {sp : Space} (v : View sig .tc sp S272x376 .bf16) (w : FVec Ideal S17x16x376 .f32) (inb) :
    v.readCov ([⟨Rect.unit (s := S272x376) ![256, 0] ![16, 376] inb_S272x376_S16x376_256_0,
      k0_pay23 (F := Ideal) (View.ld w (Rect.unit (s := S17x16x376) ![16, 0, 0] ![1, 16, 376] inb_S17x16x376_S1x16x376_16_0_0))⟩,
    ⟨Rect.unit (s := S272x376) ![240, 0] ![16, 376] inb_S272x376_S16x376_240_0,
      k0_pay22 (F := Ideal) (View.ld w (Rect.unit (s := S17x16x376) ![15, 0, 0] ![1, 16, 376] inb_S17x16x376_S1x16x376_15_0_0))⟩,
    ⟨Rect.unit (s := S272x376) ![224, 0] ![16, 376] inb_S272x376_S16x376_224_0,
      k0_pay21 (F := Ideal) (View.ld w (Rect.unit (s := S17x16x376) ![14, 0, 0] ![1, 16, 376] inb_S17x16x376_S1x16x376_14_0_0))⟩,
    ⟨Rect.unit (s := S272x376) ![208, 0] ![16, 376] inb_S272x376_S16x376_208_0,
      k0_pay20 (F := Ideal) (View.ld w (Rect.unit (s := S17x16x376) ![13, 0, 0] ![1, 16, 376] inb_S17x16x376_S1x16x376_13_0_0))⟩,
    ⟨Rect.unit (s := S272x376) ![192, 0] ![16, 376] inb_S272x376_S16x376_192_0,
      k0_pay19 (F := Ideal) (k0_pay18 (F := Ideal) (View.ld w (Rect.unit (s := S17x16x376) ![12, 0, 0] ![1, 16, 376] inb_S17x16x376_S1x16x376_12_0_0)))⟩,
    ⟨Rect.unit (s := S272x376) ![176, 0] ![16, 376] inb_S272x376_S16x376_176_0,
      k0_pay17 (F := Ideal) (View.ld w (Rect.unit (s := S17x16x376) ![11, 0, 0] ![1, 16, 376] inb_S17x16x376_S1x16x376_11_0_0))⟩,
    ⟨Rect.unit (s := S272x376) ![160, 0] ![16, 376] inb_S272x376_S16x376_160_0,
      k0_pay16 (F := Ideal) (View.ld w (Rect.unit (s := S17x16x376) ![10, 0, 0] ![1, 16, 376] inb_S17x16x376_S1x16x376_10_0_0))⟩,
    ⟨Rect.unit (s := S272x376) ![144, 0] ![16, 376] inb_S272x376_S16x376_144_0,
      k0_pay15 (F := Ideal) (View.ld w (Rect.unit (s := S17x16x376) ![9, 0, 0] ![1, 16, 376] inb_S17x16x376_S1x16x376_9_0_0))⟩,
    ⟨Rect.unit (s := S272x376) ![128, 0] ![16, 376] inb_S272x376_S16x376_128_0,
      k0_pay14 (F := Ideal) (View.ld w (Rect.unit (s := S17x16x376) ![8, 0, 0] ![1, 16, 376] inb_S17x16x376_S1x16x376_8_0_0))⟩,
    ⟨Rect.unit (s := S272x376) ![112, 0] ![16, 376] inb_S272x376_S16x376_112_0,
      k0_pay13 (F := Ideal) (k0_pay12 (F := Ideal) (View.ld w (Rect.unit (s := S17x16x376) ![7, 0, 0] ![1, 16, 376] inb_S17x16x376_S1x16x376_7_0_0)))⟩,
    ⟨Rect.unit (s := S272x376) ![96, 0] ![16, 376] inb_S272x376_S16x376_96_0,
      k0_pay11 (F := Ideal) (View.ld w (Rect.unit (s := S17x16x376) ![6, 0, 0] ![1, 16, 376] inb_S17x16x376_S1x16x376_6_0_0))⟩,
    ⟨Rect.unit (s := S272x376) ![80, 0] ![16, 376] inb_S272x376_S16x376_80_0,
      k0_pay10 (F := Ideal) (View.ld w (Rect.unit (s := S17x16x376) ![5, 0, 0] ![1, 16, 376] inb_S17x16x376_S1x16x376_5_0_0))⟩,
    ⟨Rect.unit (s := S272x376) ![64, 0] ![16, 376] inb_S272x376_S16x376_64_0,
      k0_pay9 (F := Ideal) (View.ld w (Rect.unit (s := S17x16x376) ![4, 0, 0] ![1, 16, 376] inb_S17x16x376_S1x16x376_4_0_0))⟩,
    ⟨Rect.unit (s := S272x376) ![48, 0] ![16, 376] inb_S272x376_S16x376_48_0,
      k0_pay8 (F := Ideal) (View.ld w (Rect.unit (s := S17x16x376) ![3, 0, 0] ![1, 16, 376] inb_S17x16x376_S1x16x376_3_0_0))⟩,
    ⟨Rect.unit (s := S272x376) ![32, 0] ![16, 376] inb_S272x376_S16x376_32_0,
      k0_pay7 (F := Ideal) (k0_pay6 (F := Ideal) (View.ld w (Rect.unit (s := S17x16x376) ![2, 0, 0] ![1, 16, 376] inb_S17x16x376_S1x16x376_2_0_0)))⟩,
    ⟨Rect.unit (s := S272x376) ![16, 0] ![16, 376] inb_S272x376_S16x376_16_0,
      k0_pay5 (F := Ideal) (View.ld w (Rect.unit (s := S17x16x376) ![1, 0, 0] ![1, 16, 376] inb_S17x16x376_S1x16x376_1_0_0))⟩,
    ⟨Rect.unit (s := S272x376) ![0, 0] ![16, 376] inb_S272x376_S16x376_0_0,
      k0_pay4 (F := Ideal) (View.ld w (Rect.unit (s := S17x16x376) ![0, 0, 0] ![1, 16, 376] inb_S17x16x376_S1x16x376_0_0_0))⟩] : List (View.Piece (Elt Ideal) S272x376 .bf16))
      (Rect.unit (s := S272x376) ![0, 0] ![272, 376] inb).toLoadRect = gathered w := by
  rw [View.readCov_eq_canon']
  funext y
  have e : (Rect.unit (s := S272x376) ![0, 0] ![272, 376] inb).toLoadRect.idx y = y := by
    funext a
    apply Fin.ext
    fin_cases a <;> simp
  rw [e]
  canon_tiles x h
  all_goals
    unfold gathered
    open_payloads
    pointwise
    blk_ext

/-- A block's means, at a place of the whole array. -/
theorem piece7 (off : Nat) (inb) (f : main_call0_v0.ty.Contents (Elt Ideal)) (w1t : FVec Ideal S15x376 .f32) (sp sm : FVec Ideal S16x15 .f32)
    (wf : FVec Ideal S272x376 .bf16) (e : FVec Ideal S272x16 .bf16) (p : FVec Ideal S17x272 .bf16)
    (x : S17x4096.Idx) (j : S17x16384.Idx) (h0 : (j 0 : Nat) = x 0) (h1 : (j 1 : Nat) = off + x 1) :
    k0_pay27 (F := Ideal)
      (ReadAs.same.apply (View.read (Elt Ideal) ((View.whole main_call0_v0).slice (Rect.unit (s := S376x16384) ![0, off] ![376, 4096] inb)) f))
      (k0_pay26 (F := Ideal)
      (ReadAs.same.apply (View.read (Elt Ideal) ((View.whole main_call0_v0).slice (Rect.unit (s := S376x16384) ![0, off] ![376, 4096] inb)) f))
      w1t sp sm) wf e p x
      = meanOf wf e p (fun d => (f : FVec Ideal S376x16384 .f32) (ix2 d (j 1)))
          (weight w1t sp sm fun d => (f : FVec Ideal S376x16384 .f32) (ix2 d (j 1))) (j 0) := by
  have e0 : j 0 = x 0 := Fin.ext h0
  rw [e0, mean_block]
  exact congrArg (fun w => meanOf wf e p w (weight w1t sp sm w) _) (funext fun d => copied off inb f d (x 1) (j 1) h1)

variable (c : Dev nD)

/-- The staged turned decision weights read as the array. -/
theorem read0 : View.read (Elt Ideal) (View.whole cc0_stg0_0) ((hs0_0 t0_0).unread (iblk m c 0 t0_0)) = V m c main_call0_v1 :=
  ((hs0_0 t0_0).read_unread _).trans (iblk0 m c)
/-- The staged table of positive signs read as the array. -/
theorem read1 : View.read (Elt Ideal) (View.whole cc0_stg1_0) ((hs0_1 t0_0).unread (iblk m c 1 t0_0)) = V m c main_call0_cst :=
  ((hs0_1 t0_0).read_unread _).trans (iblk1 m c)
/-- The staged table of negative signs read as the array. -/
theorem read2 : View.read (Elt Ideal) (View.whole cc0_stg2_0) ((hs0_2 t0_0).unread (iblk m c 2 t0_0)) = V m c main_call0_cst_0 :=
  ((hs0_2 t0_0).read_unread _).trans (iblk2 m c)
/-- The staged turned leaf maps read as the array. -/
theorem read3 : View.read (Elt Ideal) (View.whole cc0_stg3_0) ((hs0_3 t0_0).unread (iblk m c 3 t0_0)) = V m c main_call0_v2 :=
  ((hs0_3 t0_0).read_unread _).trans (iblk3 m c)
/-- The staged turned log deviations read as the array. -/
theorem read4 : View.read (Elt Ideal) (View.whole cc0_stg4_0) ((hs0_4 t0_0).unread (iblk m c 4 t0_0)) = V m c main_call0_v3 :=
  ((hs0_4 t0_0).read_unread _).trans (iblk4 m c)
/-- The staged table that spreads the weights read as the array. -/
theorem read5 : View.read (Elt Ideal) (View.whole cc0_stg5_0) ((hs0_5 t0_0).unread (iblk m c 5 t0_0)) = V m c main_call0_cst_1 :=
  ((hs0_5 t0_0).read_unread _).trans (iblk5 m c)
/-- The staged table that adds up the rows read as the array. -/
theorem read6 : View.read (Elt Ideal) (View.whole cc0_stg6_0) ((hs0_6 t0_0).unread (iblk m c 6 t0_0)) = V m c main_call0_cst_2 :=
  ((hs0_6 t0_0).read_unread _).trans (iblk6 m c)

/-- The second result array: at an output and an observation, the weighted log deviations. -/
theorem final8 : (dats m 0 c).arrAt 8 cfg0.N = (fun j => logStdOf (V m c main_call0_v3)
      (weight (V m c main_call0_v1) (V m c main_call0_cst) (V m c main_call0_cst_0) fun d => (V m c main_call0_v0 : FVec Ideal S376x16384 .f32) (ix2 d (j 1))) (j 0)
      : FVec Ideal S17x16384 .f32) := by
  refine (dats m 0 c).arrAt_eq_of_after_last 8 t0_0 (by decide +kernel) _ fun j => ?_
  blk_simp
  rw [after0_8]
  unfold outsAt0
  frame_out
  simp only [slab, logStd_1, logStd_2, logStd_3]
  rw [read0, read1, read2, read4]
  canon_tiles x h
  · exact piece8 _ _ _ _ _ _ _ _ _ h0 h1
  · exact piece8 _ _ _ _ _ _ _ _ _ h0 h1
  · exact piece8 _ _ _ _ _ _ _ _ _ h0 h1
  · exact piece8 _ _ _ _ _ _ _ _ _ h0 (by omega)

/-- The first result array: at an output and an observation, the mean. -/
theorem final7 : (dats m 0 c).arrAt 7 cfg0.N = (fun j => meanOf (gathered (V m c main_call0_v2)) (V m c main_call0_cst_1) (V m c main_call0_cst_2)
      (fun d => (V m c main_call0_v0 : FVec Ideal S376x16384 .f32) (ix2 d (j 1)))
      (weight (V m c main_call0_v1) (V m c main_call0_cst) (V m c main_call0_cst_0) fun d => (V m c main_call0_v0 : FVec Ideal S376x16384 .f32) (ix2 d (j 1))) (j 0)
      : FVec Ideal S17x16384 .f32) := by
  refine (dats m 0 c).arrAt_eq_of_after_last 7 t0_0 (by decide +kernel) _ fun j => ?_
  blk_simp
  rw [after0_7]
  unfold outsAt0
  frame_out
  simp only [slab, mean_1, mean_2, mean_3]
  rw [read0, read1, read2, read3, read5, read6, gathered_eq]
  canon_tiles x h
  · exact piece7 _ _ _ _ _ _ _ _ _ _ _ h0 h1
  · exact piece7 _ _ _ _ _ _ _ _ _ _ _ h0 h1
  · exact piece7 _ _ _ _ _ _ _ _ _ _ _ h0 h1
  · exact piece7 _ _ _ _ _ _ _ _ _ _ _ h0 (by omega)

/-! ## The arrays that the region finds -/

/-- The table of positive parts of the signs. -/
def positive : FVec Ideal S16x15 .f32 := fun i => FloatOps.ofBits (F := Ideal) .f32 (lit0 (S16x15.rowMajor i))

/-- The table of negative parts of the signs. -/
def negative : FVec Ideal S16x15 .f32 := fun i => FloatOps.ofBits (F := Ideal) .f32 (lit1 (S16x15.rowMajor i))

/-- The table that repeats the leaves' weights once for every output. -/
def spread : FVec Ideal S272x16 .bf16 := fun i => FloatOps.ofBits (F := Ideal) .bf16 (lit2 (S272x16.rowMajor i))

/-- The table that adds up the leaves of every output. -/
def summed : FVec Ideal S17x272 .bf16 := fun i => FloatOps.ofBits (F := Ideal) .bf16 (lit3 (S17x272.rowMajor i))

/-- The region finds the observations turned. -/
theorem entry_v0 : V m c main_call0_v0 = transpose S376x16384 [1, 0] (m ((c : Thread nD τ).loc main_arg0)) transposes_S16384x376_S376x16384_1_0 := by
  unfold V V0
  simp only [List.flatten_cons, List.flatten_nil, List.append_nil, hostOps0]
  entry_read
  rfl

/-- The region finds the decision weights turned. -/
theorem entry_v1 : V m c main_call0_v1 = transpose S15x376 [1, 0] (m ((c : Thread nD τ).loc main_arg1)) transposes_S376x15_S15x376_1_0 := by
  unfold V V0
  simp only [List.flatten_cons, List.flatten_nil, List.append_nil, hostOps0]
  entry_read
  rfl

/-- The region finds the leaf maps turned, outputs first. -/
theorem entry_v2 : V m c main_call0_v2 = transpose S17x16x376 [2, 0, 1] (m ((c : Thread nD τ).loc main_arg3)) transposes_S16x376x17_S17x16x376_2_0_1 := by
  unfold V V0
  simp only [List.flatten_cons, List.flatten_nil, List.append_nil, hostOps0]
  entry_read
  rfl

/-- The region finds the raw log deviations turned. -/
theorem entry_v3 : V m c main_call0_v3 = transpose S17x16 [1, 0] (m ((c : Thread nD τ).loc main_arg5)) transposes_S16x17_S17x16_1_0 := by
  unfold V V0
  simp only [List.flatten_cons, List.flatten_nil, List.append_nil, hostOps0]
  entry_read
  rfl

/-- The region finds the table of positive signs. -/
theorem entry_cst : V m c main_call0_cst = positive := by
  unfold V V0
  simp only [List.flatten_cons, List.flatten_nil, List.append_nil, hostOps0]
  entry_read
  rfl

/-- The region finds the table of negative signs. -/
theorem entry_cst_0 : V m c main_call0_cst_0 = negative := by
  unfold V V0
  simp only [List.flatten_cons, List.flatten_nil, List.append_nil, hostOps0]
  entry_read
  rfl

/-- The region finds the table that spreads the weights. -/
theorem entry_cst_1 : V m c main_call0_cst_1 = spread := by
  unfold V V0
  simp only [List.flatten_cons, List.flatten_nil, List.append_nil, hostOps0]
  entry_read
  rfl

/-- The region finds the table that adds up the rows. -/
theorem entry_cst_2 : V m c main_call0_cst_2 = summed := by
  unfold V V0
  simp only [List.flatten_cons, List.flatten_nil, List.append_nil, hostOps0]
  entry_read
  rfl

/-! ## The run -/

/-- The weights that the kernel gives to an observation, from the array of the observations and the decisions' rows. -/
def weightsAt (x : FVec Ideal S16384x376 .f32) (w1 : FVec Ideal S376x15 .f32) (b : Fin 16384) : Fin 16 → EReal :=
  hot (score positive negative fun i => ∑ d, w1 (ix2 d i) * x (ix2 b d))

/-- The first result as a function of the arguments. -/
def means (x : FVec Ideal S16384x376 .f32) (w1 : FVec Ideal S376x15 .f32) (wl : FVec Ideal S16x376x17 .f32) : FVec Ideal S16384x17 .f32 :=
  fun j => meanOf (gathered (transpose S17x16x376 [2, 0, 1] wl transposes_S16x376x17_S17x16x376_2_0_1)) spread summed
    (fun d => x (ix2 (j 0) d)) (weightsAt x w1 (j 0)) (j 1)

/-- The second result as a function of the arguments. -/
def logStds (x : FVec Ideal S16384x376 .f32) (w1 : FVec Ideal S376x15 .f32) (ls : FVec Ideal S16x17 .f32) : FVec Ideal S16384x17 .f32 :=
  fun j => logStdOf (transpose S17x16 [1, 0] ls transposes_S16x17_S17x16_1_0) (weightsAt x w1 (j 0)) (j 1)

variable (ρ : Dev nD → PrngReg)

/-- After the region the first result is the transposed first array. -/
theorem tail_0 : Pipeline.afterTail₀ cfgs (dats m) 0 (V0 m) [hostOps1] c main_v0_0
    = transpose S16384x17 [1, 0] ((dats m 0 c).arrAt 7 cfg0.N) transposes_S17x16384_S16384x17_1_0 := by
  unfold Pipeline.afterTail₀
  simp only [List.flatten_cons, List.flatten_nil, List.append_nil, hostOps1]
  after_results
  exact congrArg (fun x => transpose S16384x17 [1, 0] x transposes_S17x16384_S16384x17_1_0)
    (Pipeline.withArrays_arr (cfgs 0).spec (by decide) c (V0 m c) (fun w => (dats m 0 c).arrAt w (cfgs 0).N) 7)

/-- After the region the second result is the transposed second array. -/
theorem tail_1 : Pipeline.afterTail₀ cfgs (dats m) 0 (V0 m) [hostOps1] c main_v0_1
    = transpose S16384x17 [1, 0] ((dats m 0 c).arrAt 8 cfg0.N) transposes_S17x16384_S16384x17_1_0 := by
  unfold Pipeline.afterTail₀
  simp only [List.flatten_cons, List.flatten_nil, List.append_nil, hostOps1]
  after_results
  exact congrArg (fun x => transpose S16384x17 [1, 0] x transposes_S17x16384_S16384x17_1_0)
    (Pipeline.withArrays_arr (cfgs 0).spec (by decide) c (V0 m c) (fun w => (dats m 0 c).arrAt w (cfgs 0).N) 8)

/-- The decisions from the turned table of rows. -/
theorem decision_turned (w1 : FVec Ideal S376x15 .f32) (x : Fin 376 → EReal) :
    decision (transpose S15x376 [1, 0] w1 transposes_S376x15_S15x376_1_0) x = fun i => ∑ d, w1 (ix2 d i) * x d := by
  funext i
  pointwise [decision]

set_option maxHeartbeats 1600000 in
/-- Every run of the kernel ends with the two results at their functions of the arguments, which are unchanged. -/
theorem run : θ_run defs (onTc (τ := τ) (main (F := Ideal))) ⟨m, fun _ => 0, ρ⟩ fun r => ∀ c : Dev nD,
    r.2.mem ((c.tc : Thread nD τ).loc main_v0_0)
        = means (m ((c.tc : Thread nD τ).loc main_arg0)) (m ((c.tc : Thread nD τ).loc main_arg1)) (m ((c.tc : Thread nD τ).loc main_arg3))
    ∧ r.2.mem ((c.tc : Thread nD τ).loc main_v0_1)
        = logStds (m ((c.tc : Thread nD τ).loc main_arg0)) (m ((c.tc : Thread nD τ).loc main_arg1)) (m ((c.tc : Thread nD τ).loc main_arg5)) := by
  run_from run_main m ρ
  · rw [tail_0, final7, entry_v0, entry_v1, entry_v2, entry_cst, entry_cst_0, entry_cst_1, entry_cst_2]
    funext j
    pointwise [means, weightsAt, weight]
    rw [decision_turned]
  · rw [tail_1, final8, entry_v0, entry_v1, entry_v3, entry_cst, entry_cst_0]
    funext j
    pointwise [logStds, weightsAt, weight]
    rw [decision_turned]

end Cert.KernelIdeal.Value
-- ==== Proof.RefRun.lean ====
module

public import proofs.«01_k».proof.Proof.Gen.ReferenceIdeal
public import Idealize.ShloMosaic.Lib.StableHlo.RunHlo
public import Idealize.ShloMosaic.Lib.Claim

/-! The reference's run: what its two results hold, as functions of the six arguments. -/

@[expose] public section

set_option maxRecDepth 16384

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The table of signs: entry `(i, l)` says on which side of decision `i` leaf `l` lies. -/
def signs : FVec F S15x16 .f32 := fun i => FloatOps.ofBits .f32 (lit0 (S15x16.rowMajor i))

/-- The fifteen decisions of every observation: an affine map of the observation. -/
def decisions (x : FVec F S16384x376 .f32) (w1 : FVec F S376x15 .f32) (b1 : FVec F S15 .f32) : FVec F S16384x15 .f32 :=
  addf (Host.dotGeneral dot_S16384x376_S376x15_S16384x15_1_0_0_1_n_n none x w1)
    (broadcastInDim S16384x15 ![0, 1] bcast_S1x15_S16384x15_0_1 (broadcastInDim S1x15 ![1] bcast_S15_S1x15_1 b1))

/-- The scores of the sixteen leaves: the positive parts of the decisions and of their negatives, each summed with
the matching part of the signs. -/
def scores (a : FVec F S16384x15 .f32) : FVec F S16384x16 .f32 :=
  addf
    (Host.dotGeneral dot_S16384x15_S15x16_S16384x16_1_0_0_1_n_n none
      (maximumf a (broadcastInDim S16384x15 ![] bcast_S_S16384x15 (constant S_ .f32 0x00000000#32)))
      (maximumf signs (broadcastInDim S15x16 ![] bcast_S_S15x16 (constant S_ .f32 0x00000000#32))))
    (Host.dotGeneral dot_S16384x15_S15x16_S16384x16_1_0_0_1_n_n none
      (maximumf (Host.negf a) (broadcastInDim S16384x15 ![] bcast_S_S16384x15 (constant S_ .f32 0x00000000#32)))
      (maximumf (Host.negf signs) (broadcastInDim S15x16 ![] bcast_S_S15x16 (constant S_ .f32 0x00000000#32))))

/-- The scores with all but the four greatest of a row put at minus infinity. -/
def masked (z : FVec F S16384x16 .f32) : FVec F S16384x16 .f32 :=
  select
    (cmpf .oge z (broadcastInDim S16384x16 ![0, 1] bcast_S16384x1_S16384x16_0_1
      (extractStridedSlice S16384x1 ![0, 3]
        (Host.topK S16384x4 1 (FloatOps.cmpfTotal .gt) z sliceFits_S16384x16_S16384x4).1 slices_S16384x4_S16384x1_0_3)))
    (Host.divf z (broadcastInDim S16384x16 ![] bcast_S_S16384x16 (constant S_ .f32 0x3F800000#32)))
    (broadcastInDim S16384x16 ![] bcast_S_S16384x16 (id (constant S_ .f32 0xFF800000#32)))

/-- The exponentials of a table less its row's greatest entry. -/
def exps (y : FVec F S16384x16 .f32) : FVec F S16384x16 .f32 :=
  Host.exp (subf y (broadcastInDim S16384x16 ![0, 1] bcast_S16384x1_S16384x16_0_1
    (broadcastInDim S16384x1 ![0] bcast_S16384_S16384x1_0
      (maximumf (broadcastInDim S16384 ![] bcast_S_S16384 (constant S_ .f32 0xFF800000#32))
        (Host.reduce FloatOps.maximumf y (constant S_ .f32 0xFF800000#32) reducesTo_S16384x16_S16384_d1 h_S_)))))

/-- A table with each row divided by its sum. -/
def normalized (e : FVec F S16384x16 .f32) : FVec F S16384x16 .f32 :=
  Host.divf e (broadcastInDim S16384x16 ![0, 1] bcast_S16384x1_S16384x16_0_1
    (broadcastInDim S16384x1 ![0] bcast_S16384_S16384x1_0
      (Host.reduceAdd e (constant S_ .f32 0x00000000#32) reducesTo_S16384x16_S16384_d1 h_S_)))

/-- The place of each row's greatest score, the first of several. -/
def best (z : FVec F S16384x16 .f32) : IVec S16384 32 := fun j =>
  (Host.argReduce reducer_argmax_f32_i32 z (iotaInDim S16384x16 32 1) (constant S_ .f32 0xFF800000#32)
    (constantI S_ 32 0#32) reducesTo_S16384x16_S16384_d1 h_S_ j).2

/-- The table that has one at each row's chosen place and zero elsewhere. -/
def oneHot (p : IVec S16384 32) : FVec F S16384x16 .f32 :=
  uitofp .f32 (cmpi .eq
    (broadcastInDim S16384x16 ![0, 1] bcast_S16384x1_S16384x16_0_1 (broadcastInDim S16384x1 ![0] bcast_S16384_S16384x1_0 p))
    (broadcastInDim S16384x16 ![0, 1] bcast_S1x16_S16384x16_0_1 (iotaInDim S1x16 32 1)))

/-- The weights of the leaves: the soft weights plus the difference of the hard ones and the soft ones. -/
def weights (soft hard : FVec F S16384x16 .f32) : FVec F S16384x16 .f32 := addf soft (subf hard soft)

/-- The weights as a function of the scores. -/
def weightsOf (z : FVec F S16384x16 .f32) : FVec F S16384x16 .f32 :=
  weights (normalized (exps (masked z))) (oneHot (best z))

/-- The first result: the leaves' affine maps of the observation, weighted. -/
def mean (w : FVec F S16384x16 .f32) (x : FVec F S16384x376 .f32) (wl : FVec F S16x376x17 .f32) (bl : FVec F S16x17 .f32) :
    FVec F S16384x17 .f32 :=
  Host.dotGeneral dot_S16384x16_S16384x16x17_S16384x17_1_1_n_2_0_0 none w
    (addf (Host.dotGeneral dot_S16384x376_S16x376x17_S16384x16x17_1_1_0_02_n_n none x wl)
      (broadcastInDim S16384x16x17 ![0, 1, 2] bcast_S1x16x17_S16384x16x17_0_1_2
        (broadcastInDim S1x16x17 ![1, 2] bcast_S16x17_S1x16x17_1_2 bl)))

/-- The second result: the leaves' raw log deviations, weighted and squashed into an interval. -/
def logStd (w : FVec F S16384x16 .f32) (ls : FVec F S16x17 .f32) : FVec F S16384x17 .f32 :=
  addf (broadcastInDim S16384x17 ![] bcast_S_S16384x17 (constant S_ .f32 0xC0A00000#32))
    (mulf (broadcastInDim S16384x17 ![] bcast_S_S16384x17 (constant S_ .f32 0x40600000#32))
      (addf (Host.tanh (Host.dotGeneral dot_S16384x16_S16x17_S16384x17_1_0_0_1_n_n none w ls))
        (broadcastInDim S16384x17 ![] bcast_S_S16384x17 (constant S_ .f32 0x3F800000#32))))

variable (m : (ℓ : Loc nD τ sig) → Buf (Elt F) ℓ) (ρ : Dev nD → PrngReg)

/-- The weights of the run's arguments. -/
def weightsAt (c : Dev nD) : FVec F S16384x16 .f32 :=
  weightsOf (scores (decisions (m ((c.tc : Thread nD τ).loc main_arg0)) (m ((c.tc : Thread nD τ).loc main_arg1))
    (m ((c.tc : Thread nD τ).loc main_arg2))))

set_option maxHeartbeats 4000000 in
/-- Every run of the reference ends with the two results at their functions of the arguments, which are unchanged. -/
theorem run :
    θ_run defs (onTc (τ := τ) (main (F := F))) ⟨m, fun _ => 0, ρ⟩ fun r => ∀ c : Dev nD,
      r.2.mem ((c.tc : Thread nD τ).loc main_v42)
          = mean (weightsAt m c) (m ((c.tc : Thread nD τ).loc main_arg0)) (m ((c.tc : Thread nD τ).loc main_arg3))
              (m ((c.tc : Thread nD τ).loc main_arg4))
      ∧ r.2.mem ((c.tc : Thread nD τ).loc main_v50) = logStd (weightsAt m c) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  hlo_run
  · unfold mean weightsAt weightsOf weights oneHot best normalized exps masked scores decisions signs
    simp only [StableHlo.TRef.toBuf, StableHlo.TRef.ofBuf, cast_eq]
    rfl
  · unfold logStd weightsAt weightsOf weights oneHot best normalized exps masked scores decisions signs
    simp only [StableHlo.TRef.toBuf, StableHlo.TRef.ofBuf, cast_eq]
    rfl

/-- Every run of the reference leaves its arguments unchanged and every counter at zero. -/
theorem frame : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  θ_run_mono (run m ρ) fun r h => ⟨fun c => (h c).2.2, sem_eq_zero_of_no_sems (by decide) r.2⟩

end Cert.ReferenceIdeal.RefRun
-- ==== Proof.Choice.lean ====
module

public import proofs.«01_k».proof.Proof.Block
public import proofs.«01_k».proof.Proof.RefRun
public import Idealize.ShloMosaic.Lib.IdealHost

/-! The first place of a row's greatest score: the kernel's minimum over the places that reach the maximum and the
reference's arg-max name the same one, so both tables of hard weights are one there and zero elsewhere. -/

@[expose] public section

set_option maxRecDepth 16384

noncomputable section

namespace Cert.Choice

open Idealize.ShloMosaic

/-- `p` is the first place at which `z` is greatest. -/
def IsFirst (z : Fin 16 → EReal) (p : Fin 16) : Prop := (∀ l, z l ≤ z p) ∧ ∀ l < p, z l < z p

/-- The pattern of minus infinity. -/
theorem bottom : Ideal.ofBits .f32 0xFF800000#32 = ⊥ := by simp [Ideal.ofBits, Ideal.ieee]

/-- The fold of `max` from minus infinity is the greatest entry. -/
theorem fold_max_eq {z : Fin 16 → EReal} {p : Fin 16} (h : ∀ l, z l ≤ z p) :
    Finset.fold max (Ideal.ofBits FTy.f32 4286578688#32) (fun k => z k) Finset.univ = z p := by
  rw [bottom]
  exact le_antisymm (Finset.fold_max_le _ |>.2 ⟨bot_le, fun l _ => h l⟩)
    ((Finset.le_fold_max _).2 (.inr ⟨p, Finset.mem_univ _, le_rfl⟩))

/-- The signed value of the least of two words is the least of their signed values. -/
theorem toInt_minsi (x y : BitVec 32) : (IntOp.minsi x y).toInt = min x.toInt y.toInt := by
  unfold IntOp.minsi
  by_cases h : x.slt y
  · rw [if_pos h]; rw [BitVec.slt_iff_toInt_lt] at h; omega
  · rw [if_neg h]; rw [BitVec.slt_iff_toInt_lt] at h; omega

/-- The signed value of a small word. -/
theorem toInt_small (l : Fin 16) : (BitVec.ofNat 32 l.val).toInt = l.val := by
  revert l; decide

/-- The kernel's place is the first place of the greatest score. -/
theorem place_eq {z : Fin 16 → EReal} {p : Fin 16} (h : IsFirst z p) :
    KernelIdeal.Block.place z = BitVec.ofNat 32 p.val := by
  apply BitVec.eq_of_toInt_eq
  unfold KernelIdeal.Block.place
  rw [fold_max_eq h.1]
  have e := Finset.fold_hom (op := IntOp.minsi (w := 32)) (op' := (min : ℤ → ℤ → ℤ)) (m := BitVec.toInt)
    (b := 2147483647#32) (f := fun l : Fin 16 => if z p ≤ z l then BitVec.ofNat 32 l.val else 16#32) (s := Finset.univ)
    toInt_minsi
  rw [← e, toInt_small]
  apply le_antisymm
  · exact (Finset.fold_min_le _).2 (.inr ⟨p, Finset.mem_univ _, by simp [toInt_small]⟩)
  · refine (Finset.le_fold_min _).2 ⟨by rw [show (2147483647#32).toInt = 2147483647 from by decide]; omega, fun l _ => ?_⟩
    split_ifs with hl
    · rw [toInt_small]
      by_contra hlt
      exact absurd hl (not_le.2 (h.2 l (by omega)))
    · rw [show (16#32).toInt = 16 from by decide]; omega

/-- The words of two places are equal when the places are. -/
theorem word_eq_iff (l p : Fin 16) : BitVec.ofNat 32 l.val = BitVec.ofNat 32 p.val ↔ l = p := by
  revert l p; decide

/-- The kernel's hard weights. -/
theorem hot_eq {z : Fin 16 → EReal} {p : Fin 16} (h : IsFirst z p) (l : Fin 16) :
    KernelIdeal.Block.hot z l = if l = p then 1 else 0 := by
  unfold KernelIdeal.Block.hot
  rw [place_eq h]
  unfold IntOp.cmpi
  by_cases e : l = p
  · subst e; simp [FloatOps.sitofp, FloatOps.scalar]
  · have hw : (BitVec.ofNat 32 l.val == BitVec.ofNat 32 p.val) = false := by simpa using fun w => e ((word_eq_iff l p).1 w)
    simp [FloatOps.sitofp, FloatOps.scalar, hw, e]

open ReferenceIdeal ReferenceIdeal.Gen

/-- The reference's body on two scores with their places keeps the greater score, and of two equal ones the first place. -/
theorem reducer_eq (u v : EReal) (p l : Fin 16) :
    reducer_argmax_f32_i32 (F := Ideal) (u, BitVec.ofNat 32 p.val) (v, BitVec.ofNat 32 l.val)
      = if v < u ∨ (u = v ∧ p ≤ l) then (u, BitVec.ofNat 32 p.val) else (v, BitVec.ofNat 32 l.val) := by
  have hs : (BitVec.ofNat 32 p.val).slt (BitVec.ofNat 32 l.val) = decide (p < l) := by revert p l; decide
  unfold reducer_argmax_f32_i32
  simp only [Ideal.cmpf_def, Ideal.cmp, IntOp.cmpi, IntOp.ori, IntOp.andi, Scalar.select, hs]
  rcases lt_trichotomy u v with h | h | h
  · simp [h, h.ne, h.not_gt]
  · subst h
    rcases lt_trichotomy p l with k | k | k
    · simp [k, k.le]
    · subst k; simp
    · simp [k, k.not_ge, k.not_gt]
  · simp [h, h.ne']

/-- What the fold holds when it has seen some of the places: the first place of the greatest score seen, with that score. -/
theorem fold_leads {z : Fin 16 → EReal} : ∀ (L : List (Fin 16)) (p : Fin 16) (seen : Fin 16 → Prop),
    (∀ l, seen l → z l < z p ∨ (z l = z p ∧ p ≤ l)) →
    ∃ q, (L.map fun l => (z l, BitVec.ofNat 32 l.val)).foldl (reducer_argmax_f32_i32 (F := Ideal)) (z p, BitVec.ofNat 32 p.val)
        = (z q, BitVec.ofNat 32 q.val)
      ∧ ∀ l, seen l ∨ l = p ∨ l ∈ L → z l < z q ∨ (z l = z q ∧ q ≤ l)
  | [], p, seen, h => ⟨p, rfl, fun l hl => by
      rcases hl with hl | hl | hl
      · exact h l hl
      · subst hl; exact .inr ⟨rfl, le_rfl⟩
      · exact absurd hl (by simp)⟩
  | k :: L, p, seen, h => by
      rw [List.map_cons, List.foldl_cons, reducer_eq]
      split_ifs with c
      · obtain ⟨q, e, hq⟩ := fold_leads L p (fun l => seen l ∨ l = k) fun l hl => by
          rcases hl with hl | hl
          · exact h l hl
          · subst hl
            rcases c with c | ⟨c, c'⟩
            · exact .inl c
            · exact .inr ⟨c.symm, c'⟩
        refine ⟨q, e, fun l hl => hq l ?_⟩
        rw [List.mem_cons] at hl; tauto
      · push Not at c
        obtain ⟨q, e, hq⟩ := fold_leads L k (fun l => seen l ∨ l = p) fun l hl => by
          have hpk : z p < z k ∨ (z p = z k ∧ k ≤ p) := by
            rcases c.1.lt_or_eq with d | d
            · exact .inl d
            · exact .inr ⟨d, (c.2 d).le⟩
          rcases hl with hl | hl
          · rcases h l hl with d | ⟨d, d'⟩ <;> rcases hpk with f | ⟨f, f'⟩
            · exact .inl (d.trans f)
            · exact .inl (f ▸ d)
            · exact .inl (d ▸ f)
            · exact .inr ⟨d.trans f, f'.trans d'⟩
          · subst hl; exact hpk
        refine ⟨q, e, fun l hl => hq l ?_⟩
        rw [List.mem_cons] at hl; tauto

/-- An index of row `b` is the pair of `b` and its place. -/
theorem row_idx (i : S16384x16.Idx) (b : Fin 16384) (h : i 0 = b) : i = ix2 b (i 1) := by
  subst h; exact eq_ix2 i

/-- The pairs that the reference's arg-max folds over at row `b` are the row's scores with their places, in some order. -/
theorem fiber_eq (z : FVec Ideal S16384x16 .f32) (b : Fin 16384) : ∃ L : List (Fin 16), (∀ l, l ∈ L) ∧
    Host.argReduceFiber z (iotaInDim S16384x16 32 1) reducesTo_S16384x16_S16384_d1 (ix1 b)
      = L.map fun l => (z (ix2 b l), BitVec.ofNat 32 l.val) := by
  have hd : ∀ i : S16384x16.Idx, reducesTo_S16384x16_S16384_d1.drop i = ix1 b ↔ i 0 = b := fun i => by
    constructor
    · intro h; exact congrFun h 0
    · intro h; rw [eq_ix1 (reducesTo_S16384x16_S16384_d1.drop i)]; exact congrArg ix1 h
  refine ⟨((List.finRange S16384x16.numel).filter fun n => reducesTo_S16384x16_S16384_d1.drop (S16384x16.rowMajor.symm n)
    = ix1 b).map (β := Fin 16) fun n => (id (S16384x16.rowMajor.symm n 1) : Fin 16), fun l => ?_, ?_⟩
  · refine List.mem_map.2 ⟨S16384x16.rowMajor (ix2 b l), List.mem_filter.2 ⟨List.mem_finRange _, ?_⟩, ?_⟩
    · rw [Equiv.symm_apply_apply, decide_eq_true_iff, hd]; rfl
    · rw [Equiv.symm_apply_apply]; rfl
  · unfold Host.argReduceFiber
    refine Eq.trans (List.map_congr_left fun n hn => ?_) List.map_map.symm
    have h := (hd _).1 (of_decide_eq_true (List.mem_filter.1 hn).2)
    exact congrArg₂ Prod.mk (congrArg z (row_idx _ b h)) rfl

/-- In a row of scores above minus infinity the reference's arg-max is the first place of the greatest. -/
theorem best_eq (z : FVec Ideal S16384x16 .f32) (b : Fin 16384) (hz : ∀ l, (⊥ : EReal) < z (ix2 b l)) :
    ∃ p, IsFirst (fun l => z (ix2 b l)) p ∧ RefRun.best (F := Ideal) z (ix1 b) = BitVec.ofNat 32 p.val := by
  obtain ⟨L, hL, e⟩ := fiber_eq z b
  unfold RefRun.best
  rw [Ideal.argReduce_eq_reduce2, Host.reduce2_eq_foldl_fiber, e]
  obtain ⟨k, M, rfl⟩ : ∃ k M, L = k :: M := by
    cases L with
    | nil => exact absurd (hL 0) (by simp)
    | cons k M => exact ⟨k, M, rfl⟩
  have h0 : reducer_argmax_f32_i32 (F := Ideal) (Ideal.ofBits .f32 0xFF800000#32, BitVec.ofNat 32 (0 : Fin 16).val)
      (z (ix2 b k), BitVec.ofNat 32 k.val) = (z (ix2 b k), BitVec.ofNat 32 k.val) := by
    rw [reducer_eq, bottom, if_neg]
    rintro (h | ⟨h, _⟩)
    · exact absurd h (hz k).not_gt
    · exact absurd h (hz k).ne
  obtain ⟨q, eq, hq⟩ := fold_leads (z := fun l => z (ix2 b l)) M k (fun _ => False) fun _ h => h.elim
  refine ⟨q, ⟨fun l => ?_, fun l hl => ?_⟩, ?_⟩
  · rcases hq l (.inr (List.mem_cons.1 (hL l))) with h | ⟨h, _⟩
    · exact h.le
    · exact h.le
  · rcases hq l (.inr (List.mem_cons.1 (hL l))) with h | ⟨_, h⟩
    · exact h
    · exact absurd hl h.not_gt
  · rw [List.map_cons, List.foldl_cons]
    refine (congrArg Prod.snd ((congrArg (List.foldl _ · _) h0).trans eq))

/-- The reference's hard weights. -/
theorem oneHot_eq (z : FVec Ideal S16384x16 .f32) (b : Fin 16384) (p l : Fin 16)
    (h : RefRun.best (F := Ideal) z (ix1 b) = BitVec.ofNat 32 p.val) :
    RefRun.oneHot (F := Ideal) (RefRun.best (F := Ideal) z) (ix2 b l) = if l = p then 1 else 0 := by
  have e : RefRun.oneHot (F := Ideal) (RefRun.best (F := Ideal) z) (ix2 b l)
      = FloatOps.uitofp (F := Ideal) .f32 (IntOp.cmpi .eq (RefRun.best (F := Ideal) z (ix1 b)) (BitVec.ofNat 32 l.val)) := by
    pointwise [RefRun.oneHot]
  rw [e, h]
  unfold IntOp.cmpi
  by_cases c : l = p
  · subst c; simp [FloatOps.uitofp, FloatOps.scalar]
  · have hw : (BitVec.ofNat 32 p.val == BitVec.ofNat 32 l.val) = false := by
      simpa using fun w => c ((word_eq_iff l p).1 (Eq.symm w))
    simp [FloatOps.uitofp, FloatOps.scalar, hw, c]

end Cert.Choice
-- ==== Proof.Soft.lean ====
module

public import proofs.«01_k».proof.Proof.Choice
public import Mathlib.Data.EReal.Inv

/-! The reference's soft weights cancel: in a row of real scores each of them is a real number, so adding the difference
of the hard weight and the soft one gives the hard weight. -/

@[expose] public section

set_option maxRecDepth 16384

noncomputable section

namespace Cert.Soft

open Idealize.ShloMosaic ReferenceIdeal ReferenceIdeal.Gen

/-- An extended real that is a real number. -/
def IsReal (x : EReal) : Prop := ∃ r : ℝ, x = r

/-- The greatest of sixteen entries is one of them. -/
theorem exists_greatest (y : Fin 16 → EReal) : ∃ p, ∀ l, y l ≤ y p := by
  obtain ⟨p, _, h⟩ := Finset.exists_max_image Finset.univ y ⟨0, Finset.mem_univ _⟩
  exact ⟨p, fun l => h l (Finset.mem_univ _)⟩

/-- An exponential of a number less a greater one is a real number and not negative. -/
theorem exp_real {x : EReal} {M : ℝ} (h : x ≤ M) : ∃ r : ℝ, 0 ≤ r ∧ Ideal.exp (x - M) = r := by
  induction x using EReal.rec with
  | bot => exact ⟨0, le_rfl, by rw [EReal.bot_sub]; rfl⟩
  | top => exact absurd h (by simp)
  | coe a => exact ⟨Real.exp (a - M), (Real.exp_pos _).le, by rw [← EReal.coe_sub]; rfl⟩

/-- A quotient of the exponentials by their sum is a real number when some entry is. -/
theorem quotient_real (y : Fin 16 → EReal) (hy : ∀ l, y l ≠ ⊤) {k : Fin 16} (hk : y k ≠ ⊥) (l : Fin 16) :
    IsReal (Ideal.div (Ideal.exp (y l - max (Ideal.ofBits .f32 4286578688#32)
        (Finset.fold max (Ideal.ofBits .f32 4286578688#32) (fun x => y x) Finset.univ)))
      (∑ j, Ideal.exp (y j - max (Ideal.ofBits .f32 4286578688#32)
        (Finset.fold max (Ideal.ofBits .f32 4286578688#32) (fun x => y x) Finset.univ)))) := by
  obtain ⟨p, hp⟩ := exists_greatest y
  rw [Choice.fold_max_eq hp, show Ideal.ofBits .f32 4286578688#32 = ⊥ from Choice.bottom, max_eq_right bot_le]
  obtain ⟨M, hM⟩ : ∃ M : ℝ, y p = M := by
    refine ⟨(y p).toReal, (EReal.coe_toReal (hy p) fun h => hk ?_).symm⟩
    exact le_bot_iff.1 (h ▸ hp k)
  choose r hr he using fun j => exp_real (hM ▸ hp j : y j ≤ M)
  rw [hM]
  simp only [he]
  have h1 : r p = 1 := by
    have h := he p
    rw [hM, ← EReal.coe_sub, sub_self] at h
    have h' : ((Real.exp 0 : ℝ) : EReal) = r p := h
    rw [Real.exp_zero] at h'
    exact (EReal.coe_injective h').symm
  have hs : (∑ j, (r j : EReal)) = ((∑ j, r j : ℝ) : EReal) := by
    exact (map_sum (⟨⟨Real.toEReal, rfl⟩, EReal.coe_add⟩ : ℝ →+ EReal) r Finset.univ).symm
  have hpos : 0 < ∑ j, r j := Finset.sum_pos' (fun j _ => hr j) ⟨p, Finset.mem_univ _, by rw [h1]; exact one_pos⟩
  rw [hs]
  refine ⟨r l * (∑ j, r j)⁻¹, ?_⟩
  unfold Ideal.div
  rw [if_neg (by exact_mod_cast hpos.ne'), EReal.coe_mul, EReal.coe_inv]

/-- An entry of a table sorted along its rows is an entry of the same row. -/
theorem sort_row (cmp : EReal × BitVec 32 → EReal × BitVec 32 → BitVec 1) (z : FVec Ideal S16384x16 .f32)
    (y : IVec S16384x16 32) (i : S16384x16.Idx) : ∃ k, (Host.sort2 S16384x16 1 cmp z y).1 i = z (ix2 (i 0) k) :=
  ⟨_, congrArg z (Choice.row_idx _ (i 0) rfl)⟩

/-- Each of the four greatest scores of a row is one of the row's scores. -/
theorem topK_row (z : FVec Ideal S16384x16 .f32) (b : Fin 16384) (q : Fin 4) :
    ∃ k, (Host.topK S16384x4 1 (FloatOps.cmpfTotal (F := Ideal) (φ := .f32) .gt) z sliceFits_S16384x16_S16384x4).1 (ix2 b q)
      = z (ix2 b k) := by
  obtain ⟨k, hk⟩ := sort_row (fun l r => FloatOps.cmpfTotal (F := Ideal) (φ := .f32) .gt l.1 r.1) z
    (fun i => if hd : 1 < S16384x16.rank then iotaInDim S16384x16 32 ⟨1, hd⟩ i else 0#32)
    (fun a => ⟨0 + (ix2 b q (a.cast sliceFits_S16384x16_S16384x4.1.symm)).val,
      Nat.lt_of_lt_of_le (Nat.add_lt_add_left (ix2 b q _).isLt _) (sliceFits_S16384x16_S16384x4.2 a)⟩)
  exact ⟨k, hk.trans (congrArg (fun c => z (ix2 c k)) (Fin.ext (Nat.zero_add _)))⟩

/-- In a row of real scores the soft weights are real numbers. -/
theorem soft_real (z : FVec Ideal S16384x16 .f32) (b : Fin 16384) (hz : ∀ l, IsReal (z (ix2 b l))) (l : Fin 16) :
    IsReal (RefRun.normalized (F := Ideal) (RefRun.exps (F := Ideal) (RefRun.masked (F := Ideal) z)) (ix2 b l)) := by
  have hm : ∀ l, RefRun.masked (F := Ideal) z (ix2 b l)
      = if (Host.topK S16384x4 1 (FloatOps.cmpfTotal .gt) z sliceFits_S16384x16_S16384x4).1 (ix2 b 3) ≤ z (ix2 b l)
        then Ideal.div (z (ix2 b l)) 1 else id (constant (F := Ideal) S_ .f32 4286578688#32) ix0 := fun l => by
    pointwise [RefRun.masked]
  obtain ⟨k, hk⟩ := topK_row z b 3
  rw [hk] at hm
  have hn : ∀ (e : FVec Ideal S16384x16 .f32), RefRun.normalized (F := Ideal) e (ix2 b l)
      = Ideal.div (e (ix2 b l)) (∑ x, e (ix2 b x)) := fun e => by pointwise [RefRun.normalized]
  have hx : ∀ (y : FVec Ideal S16384x16 .f32) (l : Fin 16), RefRun.exps (F := Ideal) y (ix2 b l)
      = Ideal.exp (y (ix2 b l) - max (Ideal.ofBits .f32 4286578688#32)
          (Finset.fold max (Ideal.ofBits .f32 4286578688#32) (fun x => y (ix2 b x)) Finset.univ)) := fun y l => by
    pointwise [RefRun.exps]
  rw [hn]
  simp only [hx]
  have h1 : ∀ x : EReal, Ideal.div x 1 = x := fun x => by unfold Ideal.div; simp
  refine quotient_real (fun l => RefRun.masked (F := Ideal) z (ix2 b l)) (fun j => ?_) (k := k) ?_ l
  · obtain ⟨r, h⟩ := hz j
    rw [hm]
    split_ifs
    · rw [h1, h]; exact EReal.coe_ne_top _
    · show Ideal.ofBits .f32 4286578688#32 ≠ ⊤
      rw [Choice.bottom]; exact bot_ne_top
  · obtain ⟨r, h⟩ := hz k
    rw [hm, if_pos le_rfl, h1, h]; exact EReal.coe_ne_bot _

/-- In a row of real scores the reference's weights are one at the first place of the greatest score and zero elsewhere. -/
theorem weights_eq (z : FVec Ideal S16384x16 .f32) (b : Fin 16384) (hz : ∀ l, IsReal (z (ix2 b l))) :
    ∃ p, Choice.IsFirst (fun l => z (ix2 b l)) p ∧ ∀ l, RefRun.weightsOf (F := Ideal) z (ix2 b l) = if l = p then 1 else 0 := by
  obtain ⟨p, hp, hb⟩ := Choice.best_eq z b fun l => by obtain ⟨r, h⟩ := hz l; rw [h]; exact EReal.bot_lt_coe _
  refine ⟨p, hp, fun l => ?_⟩
  obtain ⟨s, hs⟩ := soft_real z b hz l
  have hw : RefRun.weightsOf (F := Ideal) z (ix2 b l)
      = RefRun.normalized (F := Ideal) (RefRun.exps (F := Ideal) (RefRun.masked (F := Ideal) z)) (ix2 b l)
        + (RefRun.oneHot (F := Ideal) (RefRun.best (F := Ideal) z) (ix2 b l)
          - RefRun.normalized (F := Ideal) (RefRun.exps (F := Ideal) (RefRun.masked (F := Ideal) z)) (ix2 b l)) := rfl
  rw [hw, hs, Choice.oneHot_eq z b p l hb]
  split_ifs
  · rw [← EReal.coe_one, ← EReal.coe_sub, ← EReal.coe_add]; norm_num
  · rw [← EReal.coe_zero, ← EReal.coe_sub, ← EReal.coe_add]; norm_num

end Cert.Soft
-- ==== Proof.Assumed.lean ====
module

public import proofs.«01_k».proof.Proof.Gen.Pre_as_drawn
public import proofs.«01_k».proof.Proof.Soft
public import Idealize.ShloMosaic.Lib.ReduceAll

/-! What the precondition says of the arguments: both biases are zero, and the observations and the first weights are real
numbers. -/

@[expose] public section

set_option maxRecDepth 16384

noncomputable section

namespace Cert.Assumed

open Idealize.ShloMosaic Cert.Pre_as_drawn Cert.Pre_as_drawn.Gen Cert.Soft

/-- There is one index of a scalar. -/
instance : Subsingleton S_.Idx := ⟨fun _ _ => funext fun a => a.elim0⟩

/-- A number that compares equal to the pattern of zero is zero. -/
theorem zero_of_cmp {x : EReal} (h : Ideal.cmp .oeq x (Ideal.ofBits .f32 0x00000000#32) = 1#1) : x = 0 := by
  rw [Ideal.ofBits_zero_f32] at h
  by_contra c
  simp [Ideal.cmp, c] at h

/-- A number whose absolute value compares below the pattern of infinity is real. -/
theorem real_of_cmp {x : EReal} (h : Ideal.cmp .olt (max x (-x)) (Ideal.ofBits .f32 0x7F800000#32) = 1#1) : IsReal x := by
  rw [show Ideal.ofBits .f32 0x7F800000#32 = ⊤ by simp [Ideal.ofBits, Ideal.ieee]] at h
  induction x using EReal.rec with
  | bot => simp [Ideal.cmp] at h
  | top => simp [Ideal.cmp] at h
  | coe r => exact ⟨r, rfl⟩

/-- The precondition, read at each element. -/
theorem read (x : FVec Ideal S16384x376 .f32) (w1 : FVec Ideal S376x15 .f32) (b1 : FVec Ideal S15 .f32)
    (wl : FVec Ideal S16x376x17 .f32) (bl ls : FVec Ideal S16x17 .f32)
    (h : fn (F := Ideal) x w1 b1 wl bl ls = fun _ => 1#1) :
    (∀ i, b1 i = 0) ∧ (∀ i, bl i = 0) ∧ (∀ i, IsReal (x i)) ∧ ∀ i, IsReal (w1 i) := by
  have h0 := congrFun h ix0
  obtain ⟨h1, h2⟩ := IntOp.andi_eq_one.1 h0
  obtain ⟨h3, h4⟩ := IntOp.andi_eq_one.1 h1
  obtain ⟨h5, h6⟩ := IntOp.andi_eq_one.1 h2
  exact ⟨fun i => zero_of_cmp (Host.reduce_andi_all _ _ _ _ ix0 h3 i),
    fun i => zero_of_cmp (Host.reduce_andi_all _ _ _ _ ix0 h4 i),
    fun i => real_of_cmp (Host.reduce_andi_all _ _ _ _ ix0 h5 i),
    fun i => real_of_cmp (Host.reduce_andi_all _ _ _ _ ix0 h6 i)⟩

end Cert.Assumed
-- ==== Proof.Literals.lean ====
module

public import proofs.«01_k».proof.Proof.KernelValue
public import proofs.«01_k».proof.Proof.RefRun
public import Idealize.ShloMosaic.Lib.IdealHost

/-! The constant tables: the kernel's two tables of signs are the positive parts of the reference's table and of its
negative, and the two tables of zeros and ones of the mean say which output and which leaf a row belongs to. -/

@[expose] public section

set_option maxRecDepth 16384

noncomputable section

namespace Cert.Literals

open Idealize.ShloMosaic Cert.KernelIdeal

/-- The pattern of minus one in the wider format. -/
theorem minus_one : Ideal.ofBits .f32 0xBF800000#32 = -1 := by
  rw [show (-1 : EReal) = ((-(1 : ℝ)) : EReal) by simp]
  simp [Ideal.ofBits, Ideal.ieee, -EReal.coe_mul, -EReal.coe_neg]; norm_num

/-- Each entry of the three tables of signs is one of three triples. -/
theorem sign_words : ∀ (l : Fin 16) (i : Fin 15),
    (lit0 (S16x15.rowMajor (ix2 l i)) = 0x3F800000#32 ∧ lit1 (S16x15.rowMajor (ix2 l i)) = 0#32
      ∧ ReferenceIdeal.lit0 (ReferenceIdeal.S15x16.rowMajor (ix2 i l)) = 0x3F800000#32)
    ∨ (lit0 (S16x15.rowMajor (ix2 l i)) = 0#32 ∧ lit1 (S16x15.rowMajor (ix2 l i)) = 0x3F800000#32
      ∧ ReferenceIdeal.lit0 (ReferenceIdeal.S15x16.rowMajor (ix2 i l)) = 0xBF800000#32)
    ∨ (lit0 (S16x15.rowMajor (ix2 l i)) = 0#32 ∧ lit1 (S16x15.rowMajor (ix2 l i)) = 0#32
      ∧ ReferenceIdeal.lit0 (ReferenceIdeal.S15x16.rowMajor (ix2 i l)) = 0#32) := by
  decide +kernel

/-- The words of the table that spreads the weights over the rows. -/
theorem spread_words : ∀ (k : Fin 272) (l : Fin 16),
    lit2 (S272x16.rowMajor (ix2 k l)) = if k.val % 16 = l.val then 0x3F80#16 else 0#16 := by
  decide +kernel

/-- The words of the table that adds up the rows. -/
theorem summed_words : ∀ (o : Fin 17) (k : Fin 272),
    lit3 (S17x272.rowMajor (ix2 o k)) = if k.val / 16 = o.val then 0x3F80#16 else 0#16 := by
  decide +kernel

/-- The kernel's first table of signs is the positive part of the reference's. -/
theorem positive_eq (l : Fin 16) (i : Fin 15) : Value.positive (ix2 l i)
    = max (Ideal.ofBits .f32 (ReferenceIdeal.lit0 (ReferenceIdeal.S15x16.rowMajor (ix2 i l)))) 0 := by
  show Ideal.ofBits .f32 (lit0 (S16x15.rowMajor (ix2 l i))) = _
  rcases sign_words l i with ⟨h, _, h'⟩ | ⟨h, _, h'⟩ | ⟨h, _, h'⟩ <;> rw [h, h']
  · simp
  · rw [minus_one]; simp
  · simp

/-- The kernel's second table of signs is the positive part of the reference's negated. -/
theorem negative_eq (l : Fin 16) (i : Fin 15) : Value.negative (ix2 l i)
    = max (-Ideal.ofBits .f32 (ReferenceIdeal.lit0 (ReferenceIdeal.S15x16.rowMajor (ix2 i l)))) 0 := by
  show Ideal.ofBits .f32 (lit1 (S16x15.rowMajor (ix2 l i))) = _
  rcases sign_words l i with ⟨_, h, h'⟩ | ⟨_, h, h'⟩ | ⟨_, h, h'⟩ <;> rw [h, h']
  · simp
  · rw [minus_one]; simp
  · simp

/-- An entry of the kernel's first table of signs is zero or one. -/
theorem positive_cases (l : Fin 16) (i : Fin 15) : Value.positive (ix2 l i) = 0 ∨ Value.positive (ix2 l i) = 1 := by
  show Ideal.ofBits .f32 (lit0 (S16x15.rowMajor (ix2 l i))) = _ ∨ Ideal.ofBits .f32 (lit0 (S16x15.rowMajor (ix2 l i))) = _
  rcases sign_words l i with ⟨h, _, h'⟩ | ⟨h, _, h'⟩ | ⟨h, _, h'⟩ <;> rw [h] <;> simp

/-- An entry of the kernel's second table of signs is zero or one. -/
theorem negative_cases (l : Fin 16) (i : Fin 15) : Value.negative (ix2 l i) = 0 ∨ Value.negative (ix2 l i) = 1 := by
  show Ideal.ofBits .f32 (lit1 (S16x15.rowMajor (ix2 l i))) = _ ∨ Ideal.ofBits .f32 (lit1 (S16x15.rowMajor (ix2 l i))) = _
  rcases sign_words l i with ⟨_, h, h'⟩ | ⟨_, h, h'⟩ | ⟨_, h, h'⟩ <;> rw [h] <;> simp

/-- Row `k` takes the weight of leaf `k mod 16`. -/
theorem spread_eq (k : Fin 272) (l : Fin 16) : Value.spread (ix2 k l) = if k.val % 16 = l.val then 1 else 0 := by
  show Ideal.ofBits .bf16 (lit2 (S272x16.rowMajor (ix2 k l))) = _
  rw [spread_words]; split_ifs <;> simp

/-- Row `k` adds to output `k / 16`. -/
theorem summed_eq (o : Fin 17) (k : Fin 272) : Value.summed (ix2 o k) = if k.val / 16 = o.val then 1 else 0 := by
  show Ideal.ofBits .bf16 (lit3 (S17x272.rowMajor (ix2 o k))) = _
  rw [summed_words]; split_ifs <;> simp

end Cert.Literals
-- ==== Proof.Equation.lean ====
module

public import proofs.«01_k».proof.Proof.Literals
public import proofs.«01_k».proof.Proof.Soft

/-! The equation: with zero biases and real observations and decision weights, the kernel's two result arrays are the
reference's. -/

@[expose] public section

set_option maxRecDepth 16384

noncomputable section

namespace Cert.Equation

open Idealize.ShloMosaic Cert.KernelIdeal Cert.KernelIdeal.Gen Cert.Soft
open Cert.ReferenceIdeal (RefRun.scores RefRun.decisions RefRun.weightsOf RefRun.mean RefRun.logStd)

/-! ## Real numbers -/

/-- A sum of two real numbers is real. -/
theorem IsReal.add {x y : EReal} (hx : IsReal x) (hy : IsReal y) : IsReal (x + y) := by
  obtain ⟨r, rfl⟩ := hx; obtain ⟨s, rfl⟩ := hy; exact ⟨r + s, (EReal.coe_add r s).symm⟩

/-- A product of two real numbers is real. -/
theorem IsReal.mul {x y : EReal} (hx : IsReal x) (hy : IsReal y) : IsReal (x * y) := by
  obtain ⟨r, rfl⟩ := hx; obtain ⟨s, rfl⟩ := hy; exact ⟨r * s, (EReal.coe_mul r s).symm⟩

/-- The negative of a real number is real. -/
theorem IsReal.neg {x : EReal} (hx : IsReal x) : IsReal (-x) := by
  obtain ⟨r, rfl⟩ := hx; exact ⟨-r, (EReal.coe_neg r).symm⟩

/-- Zero is real. -/
theorem IsReal.zero : IsReal 0 := ⟨0, EReal.coe_zero.symm⟩

/-- The greater of two real numbers is real. -/
theorem IsReal.max {x y : EReal} (hx : IsReal x) (hy : IsReal y) : IsReal (max x y) := by
  rcases max_choice x y with h | h <;> rw [h] <;> assumption

/-- A finite sum of real numbers is real. -/
theorem IsReal.sum {n : Nat} {f : Fin n → EReal} (h : ∀ i, IsReal (f i)) : IsReal (∑ i, f i) :=
  Finset.sum_induction f IsReal (fun _ _ => IsReal.add) IsReal.zero fun i _ => h i

/-! ## The scores -/

/-- The kernel's score of leaf `l` for observation `b`. -/
def kernelScore (x : FVec Ideal S16384x376 .f32) (w1 : FVec Ideal S376x15 .f32) (b : Fin 16384) : Fin 16 → EReal :=
  Block.score Value.positive Value.negative fun i => ∑ d, w1 (ix2 d i) * x (ix2 b d)

/-- The reference's score is the kernel's. -/
theorem scores_eq (x : FVec Ideal S16384x376 .f32) (w1 : FVec Ideal S376x15 .f32) (b1 : FVec Ideal S15 .f32)
    (h1 : ∀ i, b1 i = 0) (b : Fin 16384) (l : Fin 16) :
    RefRun.scores (F := Ideal) (RefRun.decisions (F := Ideal) x w1 b1) (ix2 b l) = kernelScore x w1 b l := by
  have ha : ∀ i, RefRun.decisions (F := Ideal) x w1 b1 (ix2 b i) = ∑ d, w1 (ix2 d i) * x (ix2 b d) := fun i => by
    have e : RefRun.decisions (F := Ideal) x w1 b1 (ix2 b i) = ∑ k, x (ix2 b k) * w1 (ix2 k i) + b1 (ix1 i) := by
      pointwise [RefRun.decisions]
    rw [e, h1, add_zero]
    exact Finset.sum_congr rfl fun d _ => mul_comm _ _
  have e : ∀ a : FVec Ideal ReferenceIdeal.S16384x15 .f32, RefRun.scores (F := Ideal) a (ix2 b l)
      = ∑ i, max (a (ix2 b i)) 0 * max (Ideal.ofBits .f32 (ReferenceIdeal.lit0 (ReferenceIdeal.S15x16.rowMajor (ix2 i l)))) 0
        + ∑ i, max (-a (ix2 b i)) 0 * max (-Ideal.ofBits .f32 (ReferenceIdeal.lit0 (ReferenceIdeal.S15x16.rowMajor (ix2 i l)))) 0 := fun a => by
    pointwise [RefRun.scores, ReferenceIdeal.RefRun.signs]
  rw [e]
  simp only [ha]
  unfold kernelScore Block.score
  simp only [zero_sub, Literals.positive_eq, Literals.negative_eq]
  exact congrArg₂ (· + ·) (Finset.sum_congr rfl fun i _ => mul_comm _ _) (Finset.sum_congr rfl fun i _ => mul_comm _ _)

/-- The kernel's scores are real. -/
theorem score_real (x : FVec Ideal S16384x376 .f32) (w1 : FVec Ideal S376x15 .f32) (hx : ∀ i, IsReal (x i))
    (hw : ∀ i, IsReal (w1 i)) (b : Fin 16384) (l : Fin 16) : IsReal (kernelScore x w1 b l) := by
  have ha : ∀ i, IsReal (∑ d, w1 (ix2 d i) * x (ix2 b d)) := fun i => IsReal.sum fun d => IsReal.mul (hw _) (hx _)
  have h1 : IsReal 1 := ⟨1, EReal.coe_one.symm⟩
  unfold kernelScore Block.score
  refine IsReal.add (IsReal.sum fun i => IsReal.mul ?_ (IsReal.max (ha i) IsReal.zero))
    (IsReal.sum fun i => IsReal.mul ?_ (IsReal.max (zero_sub (_ : EReal) ▸ IsReal.neg (ha i)) IsReal.zero))
  · rcases Literals.positive_cases l i with h | h <;> rw [h]
    exacts [IsReal.zero, h1]
  · rcases Literals.negative_cases l i with h | h <;> rw [h]
    exacts [IsReal.zero, h1]

/-! ## The weights -/

/-- Both programs give an observation's weight to one leaf, the same one. -/
theorem weights_eq (x : FVec Ideal S16384x376 .f32) (w1 : FVec Ideal S376x15 .f32) (b1 : FVec Ideal S15 .f32)
    (h1 : ∀ i, b1 i = 0) (hx : ∀ i, IsReal (x i)) (hw : ∀ i, IsReal (w1 i)) (b : Fin 16384) :
    ∃ p : Fin 16, (∀ l, Value.weightsAt x w1 b l = if l = p then 1 else 0)
      ∧ ∀ l, RefRun.weightsOf (F := Ideal) (RefRun.scores (F := Ideal) (RefRun.decisions (F := Ideal) x w1 b1)) (ix2 b l)
          = if l = p then 1 else 0 := by
  obtain ⟨p, hp, h⟩ := Soft.weights_eq (RefRun.scores (F := Ideal) (RefRun.decisions (F := Ideal) x w1 b1)) b fun l => by
    rw [scores_eq x w1 b1 h1]; exact score_real x w1 hx hw b l
  refine ⟨p, fun l => Choice.hot_eq ?_ l, h⟩
  simp only [scores_eq x w1 b1 h1] at hp
  exact hp

/-! ## The results -/

/-- A sum weighted by one at one place is the term there. -/
theorem sum_one (p : Fin 16) (f w : Fin 16 → EReal) (hw : ∀ l, w l = if l = p then 1 else 0) : ∑ l, f l * w l = f p := by
  simp [hw]

/-- The kernel's mean of an observation whose weight is at leaf `p` is the inner product of the observation with that
leaf's row for the output. -/
theorem meanOf_eq (g : FVec Ideal S272x376 .bf16) (x : Fin 376 → EReal) (w : Fin 16 → EReal) (p : Fin 16) (o : Fin 17)
    (hw : ∀ l, w l = if l = p then 1 else 0) :
    Block.meanOf g Value.spread Value.summed x w o = ∑ d, g (ix2 (⟨16 * o.val + p.val, by omega⟩ : Fin 272) d) * x d := by
  unfold Block.meanOf
  have hs : ∀ k : Fin 272, ∑ l, Value.spread (ix2 k l) * w l = if k.val % 16 = p.val then 1 else 0 := fun k =>
    (sum_one p (fun l => Value.spread (ix2 k l)) w hw).trans (Literals.spread_eq k p)
  simp only [hs, Literals.summed_eq]
  rw [Finset.sum_eq_single (⟨16 * o.val + p.val, by omega⟩ : Fin 272)]
  · rw [if_pos (by simp only; omega), if_pos (by simp only; omega), one_mul, mul_one]
  · intro k _ hk
    by_cases c : k.val / 16 = o.val
    · rw [if_neg (c := k.val % 16 = p.val) (fun c' => hk (Fin.ext (by simp only; omega))), mul_zero, mul_zero]
    · rw [if_neg c, zero_mul]
  · intro h; exact absurd (Finset.mem_univ _) h

/-- The kernel's means are the reference's. -/
theorem means_eq (x : FVec Ideal S16384x376 .f32) (w1 : FVec Ideal S376x15 .f32) (b1 : FVec Ideal S15 .f32)
    (wl : FVec Ideal S16x376x17 .f32) (bl : FVec Ideal S16x17 .f32)
    (h1 : ∀ i, b1 i = 0) (h2 : ∀ i, bl i = 0) (hx : ∀ i, IsReal (x i)) (hw : ∀ i, IsReal (w1 i)) :
    Value.means x w1 wl = RefRun.mean (F := Ideal)
      (RefRun.weightsOf (F := Ideal) (RefRun.scores (F := Ideal) (RefRun.decisions (F := Ideal) x w1 b1))) x wl bl := by
  funext j
  rw [eq_ix2 j]
  generalize j 0 = b
  generalize j 1 = o
  obtain ⟨p, hk, hr⟩ := weights_eq x w1 b1 h1 hx hw b
  have e : ∀ w : FVec Ideal ReferenceIdeal.S16384x16 .f32, RefRun.mean (F := Ideal) w x wl bl (ix2 b o)
      = ∑ l, w (ix2 b l) * (∑ d, x (ix2 b d) * wl (ix3 l d o) + bl (ix2 l o)) := fun w => by pointwise [RefRun.mean]
  rw [e]
  simp only [h2, add_zero]
  rw [Finset.sum_congr rfl fun l _ => mul_comm _ _, sum_one p _ _ hr]
  refine (meanOf_eq _ _ _ p o hk).trans (Finset.sum_congr rfl fun d _ => ?_)
  rw [mul_comm]
  refine congrArg (x (ix2 b d) * ·) ?_
  unfold Value.gathered
  have ho : (16 * o.val + p.val) / 16 = o.val := by omega
  have hp : (16 * o.val + p.val) % 16 = p.val := by omega
  refine (congrArg (transpose S17x16x376 [2, 0, 1] wl transposes_S16x376x17_S17x16x376_2_0_1)
    (congrArg₂ (fun u v => ix3 u v d) (Fin.ext ho) (Fin.ext hp))).trans ?_
  pointwise

/-- The kernel's log deviations are the reference's. -/
theorem logStds_eq (x : FVec Ideal S16384x376 .f32) (w1 : FVec Ideal S376x15 .f32) (b1 : FVec Ideal S15 .f32)
    (ls : FVec Ideal S16x17 .f32)
    (h1 : ∀ i, b1 i = 0) (hx : ∀ i, IsReal (x i)) (hw : ∀ i, IsReal (w1 i)) :
    Value.logStds x w1 ls = RefRun.logStd (F := Ideal)
      (RefRun.weightsOf (F := Ideal) (RefRun.scores (F := Ideal) (RefRun.decisions (F := Ideal) x w1 b1))) ls := by
  funext j
  rw [eq_ix2 j]
  generalize j 0 = b
  generalize j 1 = o
  obtain ⟨p, hk, hr⟩ := weights_eq x w1 b1 h1 hx hw b
  have e : ∀ w : FVec Ideal ReferenceIdeal.S16384x16 .f32, RefRun.logStd (F := Ideal) w ls (ix2 b o)
      = Ideal.ofBits .f32 3231711232#32 + Ideal.ofBits .f32 1080033280#32 * (Ideal.tanh (∑ l, w (ix2 b l) * ls (ix2 l o)) + 1) :=
    fun w => by pointwise [RefRun.logStd]
  rw [e, Finset.sum_congr rfl fun l _ => mul_comm _ _, sum_one p _ _ hr]
  refine (sum_one p (fun l => Ideal.ofBits .f32 3231711232#32 + Ideal.ofBits .f32 1080033280#32
    * (Ideal.tanh (transpose S17x16 [1, 0] ls transposes_S16x17_S17x16_1_0 (ix2 o l)) + 1)) _ hk).trans ?_
  pointwise

end Cert.Equation
-- ==== Proof.lean ====
/- The proof of the certificate's claim: the run of the kernel, the run of the reference and the equation of the two. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_as_drawn
public import proofs.«01_k».proof.Proof.KernelValue
public import proofs.«01_k».proof.Proof.RefRun
public import proofs.«01_k».proof.Proof.Assumed
public import proofs.«01_k».proof.Proof.Equation
public import Idealize.ShloMosaic.Adequacy
public import Idealize.ShloMosaic.Init

@[expose] public section

noncomputable section

namespace Cert.Proof

open Idealize.ShloMosaic Idealize.SL.Sem

/-- Under the precondition the kernel's two results are the reference's two results. -/
theorem algebraic : Cert.algebraic_KernelIdeal_ReferenceIdeal_pre_as_drawn (hKernelIdeal := Cert.KernelIdeal.Gen.facts)
    (hReferenceIdeal := Cert.ReferenceIdeal.Gen.facts) (hPre_as_drawn := Cert.Pre_as_drawn.Gen.facts) := by
  intro m g m' g' hpre hagree
  refine ⟨_, _,
    θ_run_mono (θ_run_and (Cert.KernelIdeal.Value.run m g) (Cert.KernelIdeal.Gen.unchanged m g))
      (fun r h c => ⟨(h.1 c).1, (h.1 c).2, h.2 c⟩),
    θ_run_mono (Cert.ReferenceIdeal.RefRun.run m' g') (fun r h c => ?_)⟩
  obtain ⟨e0, e1, e2, e3, e4, e5⟩ := hagree c
  obtain ⟨h1, h2, hx, hw⟩ := Cert.Assumed.read _ _ _ _ _ _ (hpre c)
  refine ⟨(h c).1.trans ?_, (h c).2.1.trans ?_, (h c).2.2⟩
  · unfold Cert.ReferenceIdeal.RefRun.weightsAt
    rw [e0, e1, e2, e3, e4]
    exact (Cert.Equation.means_eq _ _ _ _ _ h1 h2 hx hw).symm
  · unfold Cert.ReferenceIdeal.RefRun.weightsAt
    rw [e0, e1, e2, e5]
    exact (Cert.Equation.logStds_eq _ _ _ _ h1 hx hw).symm

/-- Every claim of the certificate. -/
theorem claim : Cert.Claim := ⟨Cert.Kernel.Gen.facts, Cert.KernelIdeal.Gen.facts, Cert.ReferenceIdeal.Gen.facts, Cert.Pre_as_drawn.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.RefRun.frame m ρ, fun m ρ _ => Cert.ReferenceIdeal.RefRun.frame m ρ, trivial, algebraic⟩

end Cert.Proof

end
